-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_history_is_f32 [hPre_history_is_f32 : Cert.Pre_history_is_f32.Facts] (m : (ℓ : Loc Cert.KernelIdeal.nD Cert.KernelIdeal.τ Cert.KernelIdeal.sig) → Buf (Elt Ideal) ℓ) : Prop :=
  ∀ c : Dev Cert.KernelIdeal.nD,
    (Cert.Pre_history_is_f32.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_history_is_f32 [hPre_history_is_f32 : Cert.Pre_history_is_f32.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_history_is_f32.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_history_is_f32 [hKernelIdeal : Cert.KernelIdeal.Facts] [hPre_history_is_f32 : Cert.Pre_history_is_f32.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_history_is_f32 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_history_is_f32 [hReferenceIdeal : Cert.ReferenceIdeal.Facts] [hPre_history_is_f32 : Cert.Pre_history_is_f32.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_history_is_f32 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_history_is_f32 [hKernelIdeal : Cert.KernelIdeal.Facts] [hReferenceIdeal : Cert.ReferenceIdeal.Facts] [hPre_history_is_f32 : Cert.Pre_history_is_f32.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_history_is_f32 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_history_is_f32 : Cert.Pre_history_is_f32.Facts),
    quiescent_Kernel (hKernel := hKernel)
    ∧ quiescent_KernelIdeal (hKernelIdeal := hKernelIdeal)
    ∧ quiescent_KernelIdeal_pre_history_is_f32 (hKernelIdeal := hKernelIdeal) (hPre_history_is_f32 := hPre_history_is_f32)
    ∧ quiescent_ReferenceIdeal (hReferenceIdeal := hReferenceIdeal)
    ∧ quiescent_ReferenceIdeal_pre_history_is_f32 (hReferenceIdeal := hReferenceIdeal) (hPre_history_is_f32 := hPre_history_is_f32)
    ∧ preserves_Kernel_KernelIdeal
    ∧ algebraic_KernelIdeal_ReferenceIdeal_pre_history_is_f32 (hKernelIdeal := hKernelIdeal) (hReferenceIdeal := hReferenceIdeal) (hPre_history_is_f32 := hPre_history_is_f32)
-- ==== Pre_history_is_f32.lean ====
abbrev S3x12288x4864 : Shape := ⟨3, ![3, 12288, 4864]⟩
abbrev S3x12288x1792 : Shape := ⟨3, ![3, 12288, 1792]⟩
abbrev S1 : Shape := ⟨1, ![1]⟩
abbrev S1792x4864 : Shape := ⟨2, ![1792, 4864]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S3x12288x4864 .bf16) (main_arg1 : FVec F S3x12288x1792 .fp8e4m3) (main_arg2 : FVec F S1 .f32) (main_arg3 : FVec F S1792x4864 .fp8e4m3) (main_arg4 : FVec F S1 .f32) (main_arg5 : FVec F S16 .f32) : IVec S16 1 :=
  let main_v0 : FVec F S16 .f32 := Host.absf main_arg5
  let main_cst : FVec F S_ .f32 := constant S_ .f32 0x7F7FFFFF#32
  let main_v1 : FVec F S16 .f32 := broadcastInDim S16 ![] bcast_S_S16 main_cst
  let main_v2 : IVec S16 1 := cmpf .ole main_v0 main_v1
  let main_cst_0 : FVec F S_ .f32 := constant S_ .f32 0x7F800000#32
  let main_v3 : FVec F S16 .f32 := broadcastInDim S16 ![] bcast_S_S16 main_cst_0
  let main_v4 : IVec S16 1 := cmpf .oeq main_v0 main_v3
  let main_v5 : IVec S16 1 := ori main_v2 main_v4
  main_v5
-- ==== Kernel.lean ====
abbrev S3x12288x4864 : Shape := ⟨3, ![3, 12288, 4864]⟩
abbrev S3x12288x1792 : Shape := ⟨3, ![3, 12288, 1792]⟩
abbrev S1 : Shape := ⟨1, ![1]⟩
abbrev S1792x4864 : Shape := ⟨2, ![1792, 4864]⟩
abbrev S16 : Shape := ⟨1, ![16]⟩
abbrev S1x16 : Shape := ⟨2, ![1, 16]⟩
abbrev S1x1 : Shape := ⟨2, ![1, 1]⟩
abbrev S36864x4864 : Shape := ⟨2, ![36864, 4864]⟩
abbrev S36864x1792 : Shape := ⟨2, ![36864, 1792]⟩
abbrev S256x4864 : Shape := ⟨2, ![256, 4864]⟩
abbrev S256x1792 : Shape := ⟨2, ![256, 1792]⟩
abbrev S4864 : Shape := ⟨1, ![4864]⟩
abbrev S1x4864 : Shape := ⟨2, ![1, 4864]⟩

abbrev nBuf : Space → Nat
  | .hbm => 16
  | .vmem => 16
  | .smem => 0
  | _ => 0

abbrev bufTy : (tb : Table) → Fin (tcTables nBuf tb) → BufTy
  | .hbm, ⟨0, _⟩ => ⟨S3x12288x4864, .bf16⟩
  | .hbm, ⟨1, _⟩ => ⟨S3x12288x1792, .fp8e4m3⟩
  | .hbm, ⟨2, _⟩ => ⟨S1, .f32⟩
  | .hbm, ⟨3, _⟩ => ⟨S1792x4864, .fp8e4m3⟩
  | .hbm, ⟨4, _⟩ => ⟨S1, .f32⟩
  | .hbm, ⟨5, _⟩ => ⟨S16, .f32⟩
  | .hbm, ⟨6, _⟩ => ⟨S1x16, .f32⟩
  | .hbm, ⟨7, _⟩ => ⟨S1x1, .f32⟩
  | .hbm, ⟨8, _⟩ => ⟨S1x1, .f32⟩
  | .hbm, ⟨9, _⟩ => ⟨S36864x4864, .bf16⟩
  | .hbm, ⟨10, _⟩ => ⟨S36864x1792, .fp8e4m3⟩
  | .hbm, ⟨11, _⟩ => ⟨S36864x1792, .bf16⟩
  | .hbm, ⟨12, _⟩ => ⟨S1792x4864, .f32⟩
  | .hbm, ⟨13, _⟩ => ⟨S1x1, .f32⟩
  | .hbm, ⟨14, _⟩ => ⟨S36864x4864, .fp8e4m3⟩
  | .hbm, ⟨15, _⟩ => ⟨S1x1, .f32⟩
  | .local _ .vmem, ⟨0, _⟩ => ⟨S1x16, .f32⟩
  | .local _ .vmem, ⟨1, _⟩ => ⟨S1x1, .f32⟩
  | .local _ .vmem, ⟨2, _⟩ => ⟨S1x1, .f32⟩
  | .local _ .vmem, ⟨3, _⟩ => ⟨S256x4864, .bf16⟩
  | .local _ .vmem, ⟨4, _⟩ => ⟨S256x4864, .bf16⟩
  | .local _ .vmem, ⟨5, _⟩ => ⟨S256x1792, .fp8e4m3⟩
  | .local _ .vmem, ⟨6, _⟩ => ⟨S256x1792, .fp8e4m3⟩
  | .local _ .vmem, ⟨7, _⟩ => ⟨S1792x4864, .fp8e4m3⟩
  | .local _ .vmem, ⟨8, _⟩ => ⟨S256x1792, .bf16⟩
  | .local _ .vmem, ⟨9, _⟩ => ⟨S256x1792, .bf16⟩
  | .local _ .vmem, ⟨10, _⟩ => ⟨S1792x4864, .f32⟩
  | .local _ .vmem, ⟨11, _⟩ => ⟨S1x1, .f32⟩
  | .local _ .vmem, ⟨12, _⟩ => ⟨S256x4864, .fp8e4m3⟩
  | .local _ .vmem, ⟨13, _⟩ => ⟨S256x4864, .fp8e4m3⟩
  | .local _ .vmem, ⟨14, _⟩ => ⟨S1x1, .f32⟩
  | .local _ .vmem, ⟨15, _⟩ => ⟨S1x1, .f32⟩
  | _, _ => ⟨S3x12288x4864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14

abbrev nD : Nat := 1
abbrev τ : Topo := Topo.v7x

variable {F : FTy → Type} [FloatOps F]

abbrev grid0 : Pipeline.Grid := ⟨1, ![144], ![false]⟩

def k0_cond2 (i : grid0.Coords) : BitVec 1 :=
  let arg0 : BitVec 32 := BitVec.ofNat 32 (i 0).val
  let c143_i32 : BitVec 32 := 143#32
  let v148 : BitVec 1 := Scalar.cmpi .eq arg0 c143_i32
  let v149 : BitVec 32 := Scalar.extui v148
  let c0_i32_55 : BitVec 32 := 0#32
  let v150 : BitVec 1 := Scalar.cmpi .ne v149 c0_i32_55
  v150

def k0_cond1 (i : grid0.Coords) : BitVec 1 :=
  let arg0 : BitVec 32 := BitVec.ofNat 32 (i 0).val
  let c0_i32_31 : BitVec 32 := 0#32
  let v120 : BitVec 1 := Scalar.cmpi .eq arg0 c0_i32_31
  let v121 : BitVec 32 := Scalar.extui v120
  let c0_i32_32 : BitVec 32 := 0#32
  let v122 : BitVec 1 := Scalar.cmpi .ne v121 c0_i32_32
  v122

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4864 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1792x4864 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1792 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1792x4864 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4864 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S3x12288x4864 : Shape := ⟨3, ![3, 12288, 4864]⟩
abbrev S3x12288x1792 : Shape := ⟨3, ![3, 12288, 1792]⟩
abbrev S1 : Shape := ⟨1, ![1]⟩
abbrev S1792x4864 : Shape := ⟨2, ![1792, 4864]⟩
abbrev S16 : Shape := ⟨1, ![16]⟩
abbrev S1x16 : Shape := ⟨2, ![1, 16]⟩
abbrev S1x1 : Shape := ⟨2, ![1, 1]⟩
abbrev S36864x4864 : Shape := ⟨2, ![36864, 4864]⟩
abbrev S36864x1792 : Shape := ⟨2, ![36864, 1792]⟩
abbrev S1x36864x4864 : Shape := ⟨3, ![1, 36864, 4864]⟩
abbrev S1x1x1 : Shape := ⟨3, ![1, 1, 1]⟩

abbrev nBuf : Space → Nat
  | .hbm => 16
  | .vmem => 11
  | .smem => 0
  | _ => 0

abbrev bufTy : (tb : Table) → Fin (tcTables nBuf tb) → BufTy
  | .hbm, ⟨0, _⟩ => ⟨S3x12288x4864, .bf16⟩
  | .hbm, ⟨1, _⟩ => ⟨S3x12288x1792, .fp8e4m3⟩
  | .hbm, ⟨2, _⟩ => ⟨S1, .f32⟩
  | .hbm, ⟨3, _⟩ => ⟨S1792x4864, .fp8e4m3⟩
  | .hbm, ⟨4, _⟩ => ⟨S1, .f32⟩
  | .hbm, ⟨5, _⟩ => ⟨S16, .f32⟩
  | .hbm, ⟨6, _⟩ => ⟨S1x16, .f32⟩
  | .hbm, ⟨7, _⟩ => ⟨S1x1, .f32⟩
  | .hbm, ⟨8, _⟩ => ⟨S1x1, .f32⟩
  | .hbm, ⟨9, _⟩ => ⟨S36864x4864, .bf16⟩
  | .hbm, ⟨10, _⟩ => ⟨S36864x1792, .fp8e4m3⟩
  | .hbm, ⟨11, _⟩ => ⟨S36864x1792, .bf16⟩
  | .hbm, ⟨12, _⟩ => ⟨S1792x4864, .f32⟩
  | .hbm, ⟨13, _⟩ => ⟨S1x1, .f32⟩
  | .hbm, ⟨14, _⟩ => ⟨S36864x4864, .fp8e4m3⟩
  | .hbm, ⟨15, _⟩ => ⟨S1x1, .f32⟩
  | .local _ .vmem, ⟨0, _⟩ => ⟨S1x16, .f32⟩
  | .local _ .vmem, ⟨1, _⟩ => ⟨S1x1, .f32⟩
  | .local _ .vmem, ⟨2, _⟩ => ⟨S1x1, .f32⟩
  | .local _ .vmem, ⟨3, _⟩ => ⟨S36864x4864, .bf16⟩
  | .local _ .vmem, ⟨4, _⟩ => ⟨S36864x1792, .fp8e4m3⟩
  | .local _ .vmem, ⟨5, _⟩ => ⟨S1792x4864, .fp8e4m3⟩
  | .local _ .vmem, ⟨6, _⟩ => ⟨S36864x1792, .bf16⟩
  | .local _ .vmem, ⟨7, _⟩ => ⟨S1792x4864, .f32⟩
  | .local _ .vmem, ⟨8, _⟩ => ⟨S1x1, .f32⟩
  | .local _ .vmem, ⟨9, _⟩ => ⟨S36864x4864, .fp8e4m3⟩
  | .local _ .vmem, ⟨10, _⟩ => ⟨S1x1, .f32⟩
  | _, _ => ⟨S3x12288x4864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S36864x4864 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S36864x1792 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1792x4864 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S36864x1792 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1792x4864 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S36864x4864 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Steps.lean ====
/- What one point of the kernel's grid computes, as plain functions of the blocks it finds: the scale and
   the codes of its block of dy, its block of dx, the running product sum for dw and the running largest
   magnitude. Here also: at which of the 144 points each conditional of the body is taken, where an output
   is left alone, and the names of the buffers the body is called with. -/
module

public import proofs.«01_k».proof.Proof.Gen.KernelIdeal.Frame
public import proofs.«01_k».proof.Proof.Gen.KernelIdeal.Skeleton
public import Idealize.ShloMosaic.Lib.VecWindow
public import Idealize.ShloMosaic.Lib.Tactic.Stretches

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole loads and stores -/

/-- A load of a whole buffer reads all of it. -/
theorem readAt_all {sp : Space} {e : EltTy} {a b : ℕ} (v : View sig .tc sp ⟨2, ![a, b]⟩ e) (f : v.ty.Contents (Elt F))
    (inb : ∀ k, (![0, 0] : Fin 2 → ℕ) k + (![a, b] : Fin 2 → ℕ) k ≤ (⟨2, ![a, b]⟩ : Shape).size k) :
    v.readAt (Elt F) (Rect.unit (s := ⟨2, ![a, b]⟩) ![0, 0] ![a, b] inb).toLoadRect f = v.read (Elt F) f := View.readAt_full v f inb
/-- A store of a whole buffer leaves what was stored, whatever was stored before. -/
theorem read_writes_all {sp : Space} {e : EltTy} {a b : ℕ} (v : View sig .tc sp ⟨2, ![a, b]⟩ e) (f : v.ty.Contents (Elt F))
    (inb : ∀ k, (![0, 0] : Fin 2 → ℕ) k + (![a, b] : Fin 2 → ℕ) k ≤ (⟨2, ![a, b]⟩ : Shape).size k)
    (w : (Rect.unit (s := ⟨2, ![a, b]⟩) ![0, 0] ![a, b] inb).shape.Idx → Elt F e) (L : List (View.Piece (Elt F) ⟨2, ![a, b]⟩ e)) :
    v.read (Elt F) (v.writes (Elt F) f (⟨Rect.unit (s := ⟨2, ![a, b]⟩) ![0, 0] ![a, b] inb, w⟩ :: L)) = w := View.read_writes_full v f inb w L
/-- A load of a whole buffer after a store of it reads what was stored. -/
theorem readCov_all {sp : Space} {e : EltTy} {a b : ℕ} (v : View sig .tc sp ⟨2, ![a, b]⟩ e)
    (inb inb' : ∀ k, (![0, 0] : Fin 2 → ℕ) k + (![a, b] : Fin 2 → ℕ) k ≤ (⟨2, ![a, b]⟩ : Shape).size k)
    (w : (Rect.unit (s := ⟨2, ![a, b]⟩) ![0, 0] ![a, b] inb').shape.Idx → Elt F e) (L : List (View.Piece (Elt F) ⟨2, ![a, b]⟩ e)) :
    v.readCov (⟨Rect.unit (s := ⟨2, ![a, b]⟩) ![0, 0] ![a, b] inb', w⟩ :: L) (Rect.unit (s := ⟨2, ![a, b]⟩) ![0, 0] ![a, b] inb).toLoadRect = w :=
  View.readCov_full v inb inb' w L

/-! ## What one point computes -/

/-- The scale the history row `h` gives: the power of two above its delayed amax over 448. -/
def scaleV (h : Vec F S1x16 .f32) : FVec F S1x1 .f32 :=
  k0_pay13 (k0_pay10 (k0_pay5 h) (k0_pay6 h) (k0_pay7 h) k0_pay8) (k0_pay11 (k0_pay5 h) (k0_pay6 h) (k0_pay7 h) k0_pay8)

/-- The codes of the block `dy`: scaled down, clamped to the format's range, rounded. -/
def codesV (h : Vec F S1x16 .f32) (dy : Vec F S256x4864 .bf16) : FVec F S256x4864 .fp8e4m3 :=
  k0_pay15 (k0_pay10 (k0_pay5 h) (k0_pay6 h) (k0_pay7 h) k0_pay8) (k0_pay11 (k0_pay5 h) (k0_pay6 h) (k0_pay7 h) k0_pay8) dy

/-- The largest magnitude seen once the block `dy` is looked at, `s` seen before it. -/
def amaxV (dy : Vec F S256x4864 .bf16) (s : Vec F S1x1 .f32) : FVec F S1x1 .f32 := k0_pay1 (k0_pay18 dy s)

/-- The block of dx. -/
def dxV (h : Vec F S1x16 .f32) (ws : Vec F S1x1 .f32) (dy : Vec F S256x4864 .bf16) (w : Vec F S1792x4864 .fp8e4m3) : FVec F S256x1792 .bf16 :=
  k0_pay2 (scaleV h) (codesV h dy) w ws

/-- The running sum of products for dw once the blocks `x` and `dy` are added to `acc`. -/
def accV (h : Vec F S1x16 .f32) (dy : Vec F S256x4864 .bf16) (x : Vec F S256x1792 .fp8e4m3) (acc : Vec F S1792x4864 .f32) : FVec F S1792x4864 .f32 :=
  k0_pay3 acc x (codesV h dy)

/-- The finished dw: the sum of products times the two scales. -/
def dwV (h : Vec F S1x16 .f32) (xs : Vec F S1x1 .f32) (acc : Vec F S1792x4864 .f32) : FVec F S1792x4864 .f32 :=
  k0_pay4 (scaleV h) acc xs

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 144 = 0 :=
  (fun t => by
    have ht : t.val < 144 := Nat.lt_of_lt_of_eq t.isLt N_0
    have e0 : (grid0.coords t 0).val = t.val / 1 % 144 := Pipeline.Grid.coords_val t 0 (by decide) rfl
    simp only [cond0_0, e0]
    word_cmp
   : ∀ t : Fin grid0.N, cond0_0 (grid0.coords t) ↔ t.val % 144 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 144 = 143 :=
  (fun t => by
    have ht : t.val < 144 := Nat.lt_of_lt_of_eq t.isLt N_0
    have e0 : (grid0.coords t 0).val = t.val / 1 % 144 := Pipeline.Grid.coords_val t 0 (by decide) rfl
    simp only [cond0_1, k0_cond2, e0]
    word_cmp
   : ∀ t : Fin grid0.N, cond0_1 (grid0.coords t) ↔ t.val % 144 = 143)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- Window 9 is never idle (an output stored at every point, under no condition). -/
theorem liveAt0_9 : ∀ t : Fin cfg0.N, cfg0.idle 9 (grid0.coords t) = false := fun _ => rfl
/-- At the first point output 10 is live: the body stores the scale there. -/
theorem liveAt0_10_A : ∀ t : Fin cfg0.N, cond0_0 (grid0.coords t) → ¬cond0_1 (grid0.coords t) → cfg0.idle 10 (grid0.coords t) = false := by decide +kernel
/-- At every later point output 10 is idle: the body stores nothing into it. -/
theorem idleAt0_10 : ∀ t : Fin cfg0.N, ¬cond0_0 (grid0.coords t) → cfg0.idle 10 (grid0.coords t) = true := by decide +kernel
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel

/-! ## The buffers the body is called with -/

/-- Each window's current staging memref at point `t`, spelled as the pipeline passes it (`bodyAt0`), and its wholeness. -/
abbrev ms0_0 (t : Fin cfg0.N) : Memref sig .tc .vmem S1x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4864 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1792 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1792x4864 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1792 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1792x4864 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x4864 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1x1 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.BodyFirst.lean ====
/- The kernel's body run at the first point of the grid: what every buffer holds afterwards. -/
module

public import proofs.«01_k».proof.Proof.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- THE FIRST POINT. The running sum and the running maximum start from zero and the scale is stored; output 8 is handed back as found. -/
theorem body_first (c : Dev nD) (i : grid0.Coords) (arg1 : Memref sig .tc .vmem S1x16 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S256x4864 .bf16) (harg4 : arg4.IsWhole) (arg5 : Memref sig .tc .vmem S256x1792 .fp8e4m3) (harg5 : arg5.IsWhole) (arg6 : Memref sig .tc .vmem S1792x4864 .fp8e4m3) (harg6 : arg6.IsWhole) (arg7 : Memref sig .tc .vmem S256x1792 .bf16) (harg7 : arg7.IsWhole) (arg8 : Memref sig .tc .vmem S1792x4864 .f32) (harg8 : arg8.IsWhole) (arg9 : Memref sig .tc .vmem S1x1 .f32) (harg9 : arg9.IsWhole) (arg10 : Memref sig .tc .vmem S256x4864 .fp8e4m3) (harg10 : arg10.IsWhole) (arg11 : Memref sig .tc .vmem S1x1 .f32) (harg11 : arg11.IsWhole) (arg12 : Memref sig .tc .vmem S1x1 .f32) (harg12 : arg12.IsWhole) (hc0 : cond0_0 i) (hc1 : ¬cond0_1 i)
    (x0 : Vec F S1x16 .f32) (x1 : Vec F S1x1 .f32) (x2 : Vec F S1x1 .f32) (x3 : Vec F S256x4864 .bf16) (x4 : Vec F S256x1792 .fp8e4m3) (x5 : Vec F S1792x4864 .fp8e4m3) (xi8 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xi8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (dxV x0 x2 x3 x5) ∗ owns (c : Thread nD τ) arg8 fullShare (accV x0 x3 x4 k0_pay17) ∗ owns (c : Thread nD τ) arg9 fullShare xi8 ∗ owns (c : Thread nD τ) arg10 fullShare (codesV x0 x3) ∗ owns (c : Thread nD τ) arg11 fullShare (scaleV x0) ∗ owns (c : Thread nD τ) arg12 fullShare (amaxV x3 k0_pay16)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton, k0_part2_eq_skeleton, k0_part3_eq_skeleton]
  unfold owns
  iintro ⟨⟨%f1, %hf1, H0⟩, ⟨%f2, %hf2, H1⟩, ⟨%f3, %hf3, H2⟩, ⟨%f4, %hf4, H3⟩, ⟨%f5, %hf5, H4⟩, ⟨%f6, %hf6, H5⟩, ⟨%d7, %f7, -, H6⟩, ⟨%d8, %f8, -, H7⟩, ⟨%f9, %hf9, H8⟩, ⟨%d10, %f10, -, H9⟩, ⟨%d11, %f11, -, H10⟩, ⟨%d12, %f12, -, HS0⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg9.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; sl_open_run; simp only [readAt_all, read_writes_all, readCov_all, Memref.IsWhole.read_unread]; rfl
  isplitl [H7]
  · iexists _; isplitr; swap; · iexact H7
    ipureintro; sl_open_run; simp only [readAt_all, read_writes_all, readCov_all, Memref.IsWhole.read_unread]; rfl
  isplitl [H8]
  · iexists _; isplitr; · ipureintro; exact harg9.read_unread _
    iexact H8
  isplitl [H9]
  · iexists _; isplitr; swap; · iexact H9
    ipureintro; sl_open_run; simp only [readAt_all, read_writes_all, readCov_all, Memref.IsWhole.read_unread]; rfl
  isplitl [H10]
  · iexists _; isplitr; swap; · iexact H10
    ipureintro; sl_open_run; simp only [readAt_all, read_writes_all, readCov_all, Memref.IsWhole.read_unread]; rfl
  iexists _; isplitr; swap; · iexact HS0
  ipureintro; sl_open_run; simp only [readAt_all, read_writes_all, readCov_all, Memref.IsWhole.read_unread]; rfl

end Cert.KernelIdeal.Hand

end
-- ==== Proof.BodyMiddle.lean ====
/- The kernel's body run at a point of the grid that is neither first nor last: what every buffer holds afterwards. -/
module

public import proofs.«01_k».proof.Proof.BodyFirst

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A POINT BETWEEN. The running sum and the running maximum go on from what the point before left; outputs 8 and 10 are handed back as found. -/
theorem body_middle (c : Dev nD) (i : grid0.Coords) (arg1 : Memref sig .tc .vmem S1x16 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S256x4864 .bf16) (harg4 : arg4.IsWhole) (arg5 : Memref sig .tc .vmem S256x1792 .fp8e4m3) (harg5 : arg5.IsWhole) (arg6 : Memref sig .tc .vmem S1792x4864 .fp8e4m3) (harg6 : arg6.IsWhole) (arg7 : Memref sig .tc .vmem S256x1792 .bf16) (harg7 : arg7.IsWhole) (arg8 : Memref sig .tc .vmem S1792x4864 .f32) (harg8 : arg8.IsWhole) (arg9 : Memref sig .tc .vmem S1x1 .f32) (harg9 : arg9.IsWhole) (arg10 : Memref sig .tc .vmem S256x4864 .fp8e4m3) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : ¬cond0_1 i)
    (x0 : Vec F S1x16 .f32) (x1 : Vec F S1x1 .f32) (x2 : Vec F S1x1 .f32) (x3 : Vec F S256x4864 .bf16) (x4 : Vec F S256x1792 .fp8e4m3) (x5 : Vec F S1792x4864 .fp8e4m3) (xo7 : Vec F S1792x4864 .f32) (xs0 : Vec F S1x1 .f32) (xi8 : Vec F S1x1 .f32) (xi10 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xi8 ∗ (∃ d, owns (c : Thread nD τ) arg10 fullShare d) ∗ owns (c : Thread nD τ) arg11 fullShare xi10 ∗ owns (c : Thread nD τ) arg12 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (dxV x0 x2 x3 x5) ∗ owns (c : Thread nD τ) arg8 fullShare (accV x0 x3 x4 xo7) ∗ owns (c : Thread nD τ) arg9 fullShare xi8 ∗ owns (c : Thread nD τ) arg10 fullShare (codesV x0 x3) ∗ owns (c : Thread nD τ) arg11 fullShare xi10 ∗ owns (c : Thread nD τ) arg12 fullShare (amaxV x3 xs0)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton, k0_part2_eq_skeleton, k0_part3_eq_skeleton]
  unfold owns
  iintro ⟨⟨%f1, %hf1, H0⟩, ⟨%f2, %hf2, H1⟩, ⟨%f3, %hf3, H2⟩, ⟨%f4, %hf4, H3⟩, ⟨%f5, %hf5, H4⟩, ⟨%f6, %hf6, H5⟩, ⟨%d7, %f7, -, H6⟩, ⟨%f8, %hf8, H7⟩, ⟨%f9, %hf9, H8⟩, ⟨%d10, %f10, -, H9⟩, ⟨%f11, %hf11, H10⟩, ⟨%f12, %hf12, HS0⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9; obtain rfl := harg11.eq_unread hf11; obtain rfl := harg12.eq_unread hf12
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; sl_open_run; simp only [readAt_all, read_writes_all, readCov_all, Memref.IsWhole.read_unread]; rfl
  isplitl [H7]
  · iexists _; isplitr; swap; · iexact H7
    ipureintro; sl_open_run; simp only [readAt_all, read_writes_all, readCov_all, Memref.IsWhole.read_unread]; rfl
  isplitl [H8]
  · iexists _; isplitr; · ipureintro; exact harg9.read_unread _
    iexact H8
  isplitl [H9]
  · iexists _; isplitr; swap; · iexact H9
    ipureintro; sl_open_run; simp only [readAt_all, read_writes_all, readCov_all, Memref.IsWhole.read_unread]; rfl
  isplitl [H10]
  · iexists _; isplitr; · ipureintro; exact harg11.read_unread _
    iexact H10
  iexists _; isplitr; swap; · iexact HS0
  ipureintro; sl_open_run; simp only [readAt_all, read_writes_all, readCov_all, Memref.IsWhole.read_unread]; rfl

end Cert.KernelIdeal.Hand

end
-- ==== Proof.BodyLast.lean ====
/- The kernel's body run at the last point of the grid: what every buffer holds afterwards. -/
module

public import proofs.«01_k».proof.Proof.BodyMiddle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- THE LAST POINT. As between, then the sum is scaled to dw and the running maximum is stored as output 8; output 10 is handed back as found. -/
theorem body_last (c : Dev nD) (i : grid0.Coords) (arg1 : Memref sig .tc .vmem S1x16 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S256x4864 .bf16) (harg4 : arg4.IsWhole) (arg5 : Memref sig .tc .vmem S256x1792 .fp8e4m3) (harg5 : arg5.IsWhole) (arg6 : Memref sig .tc .vmem S1792x4864 .fp8e4m3) (harg6 : arg6.IsWhole) (arg7 : Memref sig .tc .vmem S256x1792 .bf16) (harg7 : arg7.IsWhole) (arg8 : Memref sig .tc .vmem S1792x4864 .f32) (harg8 : arg8.IsWhole) (arg9 : Memref sig .tc .vmem S1x1 .f32) (harg9 : arg9.IsWhole) (arg10 : Memref sig .tc .vmem S256x4864 .fp8e4m3) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec F S1x16 .f32) (x1 : Vec F S1x1 .f32) (x2 : Vec F S1x1 .f32) (x3 : Vec F S256x4864 .bf16) (x4 : Vec F S256x1792 .fp8e4m3) (x5 : Vec F S1792x4864 .fp8e4m3) (xo7 : Vec F S1792x4864 .f32) (xs0 : Vec F S1x1 .f32) (xi10 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ (∃ d, owns (c : Thread nD τ) arg9 fullShare d) ∗ (∃ d, owns (c : Thread nD τ) arg10 fullShare d) ∗ owns (c : Thread nD τ) arg11 fullShare xi10 ∗ owns (c : Thread nD τ) arg12 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (dxV x0 x2 x3 x5) ∗ owns (c : Thread nD τ) arg8 fullShare (dwV x0 x1 (accV x0 x3 x4 xo7)) ∗ owns (c : Thread nD τ) arg9 fullShare (amaxV x3 xs0) ∗ owns (c : Thread nD τ) arg10 fullShare (codesV x0 x3) ∗ owns (c : Thread nD τ) arg11 fullShare xi10 ∗ owns (c : Thread nD τ) arg12 fullShare (amaxV x3 xs0)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton, k0_part2_eq_skeleton, k0_part3_eq_skeleton]
  unfold owns
  iintro ⟨⟨%f1, %hf1, H0⟩, ⟨%f2, %hf2, H1⟩, ⟨%f3, %hf3, H2⟩, ⟨%f4, %hf4, H3⟩, ⟨%f5, %hf5, H4⟩, ⟨%f6, %hf6, H5⟩, ⟨%d7, %f7, -, H6⟩, ⟨%f8, %hf8, H7⟩, ⟨%d9, %f9, -, H8⟩, ⟨%d10, %f10, -, H9⟩, ⟨%f11, %hf11, H10⟩, ⟨%f12, %hf12, HS0⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg11.eq_unread hf11; obtain rfl := harg12.eq_unread hf12
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; sl_open_run; simp only [readAt_all, read_writes_all, readCov_all, Memref.IsWhole.read_unread]; rfl
  isplitl [H7]
  · iexists _; isplitr; swap; · iexact H7
    ipureintro; sl_open_run; simp only [readAt_all, read_writes_all, readCov_all, Memref.IsWhole.read_unread]; rfl
  isplitl [H8]
  · iexists _; isplitr; swap; · iexact H8
    ipureintro; sl_open_run; simp only [readAt_all, read_writes_all, readCov_all, Memref.IsWhole.read_unread]; rfl
  isplitl [H9]
  · iexists _; isplitr; swap; · iexact H9
    ipureintro; sl_open_run; simp only [readAt_all, read_writes_all, readCov_all, Memref.IsWhole.read_unread]; rfl
  isplitl [H10]
  · iexists _; isplitr; · ipureintro; exact harg11.read_unread _
    iexact H10
  iexists _; isplitr; swap; · iexact HS0
  ipureintro; sl_open_run; simp only [readAt_all, read_writes_all, readCov_all, Memref.IsWhole.read_unread]; rfl

end Cert.KernelIdeal.Hand

end
-- ==== Proof.RunData.lean ====
/- The whole grid run point after point: what every buffer of the pipeline holds after each point, the body's
   obligation at every point, the run of the whole program and the claim that it leaves its arguments unchanged
   and its semaphore counters at zero. -/
module

public import proofs.«01_k».proof.Proof.BodyLast
public import Idealize.ShloMosaic.Lib.Pipeline.TableIdle
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is carried from point to point -/

/-- The running sum of products for dw after point `n`, before the last point scales it. -/
def sumAt (c : Dev nD) : (n : ℕ) → n < cfg0.N → Vec F S1792x4864 .f32
  | 0, h => accV (iblk m c 0 ⟨0, h⟩) (iblk m c 3 ⟨0, h⟩) (iblk m c 4 ⟨0, h⟩) k0_pay17
  | n + 1, h => accV (iblk m c 0 ⟨n + 1, h⟩) (iblk m c 3 ⟨n + 1, h⟩) (iblk m c 4 ⟨n + 1, h⟩) (sumAt c n (Nat.lt_of_succ_lt h))

/-- The largest magnitude of dy met up to point `n`. -/
def maxAt (c : Dev nD) : (n : ℕ) → n < cfg0.N → Vec F S1x1 .f32
  | 0, h => amaxV (iblk m c 3 ⟨0, h⟩) k0_pay16
  | n + 1, h => amaxV (iblk m c 3 ⟨n + 1, h⟩) (maxAt c n (Nat.lt_of_succ_lt h))

/-- What output 7 holds after point `t`: the running sum, scaled at the last point. -/
def lastly (c : Dev nD) (t : Fin cfg0.N) : Vec F S1792x4864 .f32 :=
  if t.val % 144 = 143 then dwV (iblk m c 0 t) (iblk m c 1 t) (sumAt m c t.val t.isLt) else sumAt m c t.val t.isLt

/-- The scale, stored at the first point. -/
def scaleAt (c : Dev nD) : Vec F S1x1 .f32 := scaleV (iblk m c 0 ⟨0, by decide⟩)

theorem lastly_first (c : Dev nD) (t : Fin cfg0.N) (h0 : t.val % 144 = 0) :
    lastly m c t = accV (iblk m c 0 t) (iblk m c 3 t) (iblk m c 4 t) k0_pay17 := by
  have hN : t.val < 144 := lt_of_lt_of_eq t.isLt (show cfg0.N = 144 from N_0)
  obtain ⟨n, hn⟩ := t
  obtain rfl : n = 0 := by simp only at h0 hN; omega
  exact (if_neg (by dsimp only; omega)).trans rfl

theorem sumAt_later (c : Dev nD) (t : Fin cfg0.N) (h0 : ¬t.val % 144 = 0) :
    sumAt m c t.val t.isLt = accV (iblk m c 0 t) (iblk m c 3 t) (iblk m c 4 t) (sumAt m c (t.val - 1) (Nat.lt_of_le_of_lt (Nat.sub_le _ _) t.isLt)) := by
  obtain ⟨n, hn⟩ := t
  cases n with
  | zero => exact absurd rfl h0
  | succ n => rfl

theorem lastly_middle (c : Dev nD) (t : Fin cfg0.N) (h0 : ¬t.val % 144 = 0) (h1 : ¬t.val % 144 = 143) :
    lastly m c t = accV (iblk m c 0 t) (iblk m c 3 t) (iblk m c 4 t) (sumAt m c (t.val - 1) (Nat.lt_of_le_of_lt (Nat.sub_le _ _) t.isLt)) :=
  (if_neg h1).trans (sumAt_later m c t h0)

theorem lastly_last (c : Dev nD) (t : Fin cfg0.N) (h0 : ¬t.val % 144 = 0) (h1 : t.val % 144 = 143) :
    lastly m c t = dwV (iblk m c 0 t) (iblk m c 1 t) (accV (iblk m c 0 t) (iblk m c 3 t) (iblk m c 4 t) (sumAt m c (t.val - 1) (Nat.lt_of_le_of_lt (Nat.sub_le _ _) t.isLt))) :=
  (if_pos h1).trans (by rw [sumAt_later m c t h0])

theorem maxAt_first (c : Dev nD) (t : Fin cfg0.N) (h0 : t.val % 144 = 0) :
    maxAt m c t.val t.isLt = amaxV (iblk m c 3 t) k0_pay16 := by
  have hN : t.val < 144 := lt_of_lt_of_eq t.isLt (show cfg0.N = 144 from N_0)
  obtain ⟨n, hn⟩ := t
  obtain rfl : n = 0 := by simp only at h0 hN; omega
  rfl

theorem maxAt_later (c : Dev nD) (t : Fin cfg0.N) (h0 : ¬t.val % 144 = 0) :
    maxAt m c t.val t.isLt = amaxV (iblk m c 3 t) (maxAt m c (t.val - 1) (Nat.lt_of_le_of_lt (Nat.sub_le _ _) t.isLt)) := by
  obtain ⟨n, hn⟩ := t
  cases n with
  | zero => exact absurd rfl h0
  | succ n => rfl

theorem scaleAt_first (c : Dev nD) (t : Fin cfg0.N) (h0 : t.val % 144 = 0) : scaleAt m c = scaleV (iblk m c 0 t) := by
  have hN : t.val < 144 := lt_of_lt_of_eq t.isLt (show cfg0.N = 144 from N_0)
  obtain ⟨n, hn⟩ := t
  obtain rfl : n = 0 := by simp only at h0 hN; omega
  rfl

/-! ## The invariant between points -/

/-- Before point `n`: the scratch at anything before the first point, afterwards at the largest magnitude so far;
    the generator register at some state. -/
def PhiS (c : Dev nD) : (n : ℕ) → n ≤ cfg0.N → sProp 𝕄
  | 0, _ => Pipeline.ΦA spec0 c
  | n + 1, hn => iprop(iprop(owns (c : Thread nD τ) scM0_0 fullShare (maxAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (maxAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (maxAt m c (n - 1) (by omega))) ∗ (∃ r, prngReg c r)) := by
  cases n with
  | zero => exact absurd rfl hz
  | succ n => rfl

/-! ## The pipeline's proof data -/

/-- The arrays as the region finds them; after the body at point `t` each input's buffer at its block and the
    outputs' at what the point computes; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dxV (iblk m c 0 t) (iblk m c 2 t) (iblk m c 3 t) (iblk m c 5 t)
    | ⟨7, _⟩ => lastly m c t
    | ⟨8, _⟩ => maxAt m c t.val t.isLt
    | ⟨9, _⟩ => codesV (iblk m c 0 t) (iblk m c 3 t)
    | ⟨10, _⟩ => scaleAt m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dxV (iblk m c 0 t) (iblk m c 2 t) (iblk m c 3 t) (iblk m c 5 t) := by dsimp only [dats]
theorem after0_7 (c : Dev nD) (t : Fin cfg0.N) : (dats m 0 c).after 7 t = lastly m c t := by dsimp only [dats]
theorem after0_8 (c : Dev nD) (t : Fin cfg0.N) : (dats m 0 c).after 8 t = maxAt m c t.val t.isLt := by dsimp only [dats]
theorem after0_9 (c : Dev nD) (t : Fin cfg0.N) : (dats m 0 c).after 9 t = codesV (iblk m c 0 t) (iblk m c 3 t) := by dsimp only [dats]
theorem after0_10 (c : Dev nD) (t : Fin cfg0.N) : (dats m 0 c).after 10 t = scaleAt m c := by dsimp only [dats]

/-! Each input is found at its block. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- After the first point output 7 is found as the point before left it: the running sum. -/
theorem before0_7 (c : Dev nD) (t : Fin cfg0.N) (h0 : ¬t.val % 144 = 0) (d) :
    (dats m 0 c).before 7 t d = sumAt m c (t.val - 1) (Nat.lt_of_le_of_lt (Nat.sub_le _ _) t.isLt) := by
  have hN : t.val < 144 := lt_of_lt_of_eq t.isLt (show cfg0.N = 144 from N_0)
  rw [Dat.before_out_kept _ 7 rfl t (by omega) (Bool.eq_false_iff.mpr fun h => by have := (flush0_7 _).mp h; dsimp only at this; omega)
    (fun _ => rfl) (fun _ _ => rfl), after0_7]
  exact if_neg (by dsimp only; omega)

theorem noFlush0_10 (t : Fin cfg0.N) (h1 : ¬t.val % 144 = 143) : (cfg0.win 10).flush t = false :=
  Bool.eq_false_iff.mpr fun h => h1 ((flush0_10 t).mp h)

/-- From the second point on output 10's buffer holds what the first point stored. -/
theorem fresh0_10 : ∀ n : ℕ, n + 1 < cfg0.N → cfg0.fresh 10 (n + 1) = false
  | 0, h => by
    have hN : cfg0.N = 144 := N_0
    rw [Pipeline.Cfg.fresh_succ cfg0 10 0 (by omega), noFlush0_10 ⟨0, by omega⟩ (by dsimp only; omega),
      liveAt0_10_A ⟨0, by omega⟩ ((hcond0_0 _).mpr rfl) (fun h => by have := (hcond0_1 _).mp h; dsimp only at this; omega)]
    rfl
  | n + 1, h => by
    have hN : cfg0.N = 144 := N_0
    rw [Pipeline.Cfg.fresh_succ cfg0 10 (n + 1) (by omega), noFlush0_10 ⟨n + 1, by omega⟩ (by dsimp only; omega),
      fresh0_10 n (by omega), Bool.and_false]
    rfl

/-- After the first point output 10 is found at the scale the first point stored. -/
theorem before0_10 (c : Dev nD) (t : Fin cfg0.N) (h0 : ¬t.val % 144 = 0) (d) :
    (dats m 0 c).before 10 t d = scaleAt m c := by
  rw [Dat.before_out_traj (dats m 0 c) 10 rfl (fun _ _ => rfl) (fun _ _ _ _ => by rw [after0_10, after0_10]) _ t rfl d, after0_10, if_neg]
  obtain ⟨n, hn⟩ := t
  cases n with
  | zero => exact absurd rfl h0
  | succ n => rw [fresh0_10 n hn]; exact Bool.false_ne_true

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The obligation at the first point. -/
theorem sound_first (c : Dev nD) (t : Fin cfg0.N) (h0 : t.val % 144 = 0) :
    bodyPre m c t ⊢ wp frame (wpE (defs₀ (F := F)) Variants.none c none) Set.univ (bodyAt0 t) (fun _ => bodyPost m c t) := by
    have hN : t.val < 144 := lt_of_lt_of_eq t.isLt (show cfg0.N = 144 from N_0)
    have h1 : ¬t.val % 144 = 143 := by omega
    unfold bodyPre bodyPost bodyAt0
    simp only [before0_0, before0_1, before0_2, before0_3, before0_4, before0_5]
    rw [show (dats m 0 c).owesAt () t.succ = (dats m 0 c).owesAt () t.castSucc from rfl]
    rw [show (dats m 0 c).Φ t.succ = PhiS m c (t.val + 1) t.isLt from rfl, PhiS_succ]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 9 t = owns (c : Thread nD τ) (ms0_9 t) fullShare ((dats m 0 c).after 9 t) from by
      unfold Dat.leavesExact; rw [liveAt0_9 t], after0_9]
    rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
    rw [show (dats m 0 c).leavesExact 10 t = owns (c : Thread nD τ) (ms0_10 t) fullShare ((dats m 0 c).after 10 t) from by
      unfold Dat.leavesExact; rw [liveAt0_10_A t ((hcond0_0 t).mpr h0) (fun h => h1 ((hcond0_1 t).mp h))], after0_10]
    rw [PhiS_castSucc m c t, PhiS_zero m c _ _ (by omega), PhiA0_eq]
    rw [lastly_first m c t h0, maxAt_first m c t h0, scaleAt_first m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_first c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexists _; iexact H9
    isplitl [H10]; · iexists _; iexact H10
    isplitl [HS0]; · iexact HS0
    iintro ⟨H0, H1, H2, H3, H4, H5, H6, H7, H8, H9, H10, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; iexact H8
    isplitl [H9]; · iexact H9
    iexact H10

set_option maxHeartbeats 4000000 in
/-- The obligation at a point between. -/
theorem sound_middle (c : Dev nD) (t : Fin cfg0.N) (h0 : ¬t.val % 144 = 0) (h1 : ¬t.val % 144 = 143) :
    bodyPre m c t ⊢ wp frame (wpE (defs₀ (F := F)) Variants.none c none) Set.univ (bodyAt0 t) (fun _ => bodyPost m c t) := by
    have hN : t.val < 144 := lt_of_lt_of_eq t.isLt (show cfg0.N = 144 from N_0)
    unfold bodyPre bodyPost bodyAt0
    simp only [before0_0, before0_1, before0_2, before0_3, before0_4, before0_5]
    rw [show (dats m 0 c).owesAt () t.succ = (dats m 0 c).owesAt () t.castSucc from rfl]
    rw [show (dats m 0 c).Φ t.succ = PhiS m c (t.val + 1) t.isLt from rfl, PhiS_succ]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 9 t = owns (c : Thread nD τ) (ms0_9 t) fullShare ((dats m 0 c).after 9 t) from by
      unfold Dat.leavesExact; rw [liveAt0_9 t], after0_9]
    rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
    rw [Dat.leavesExact_idle (dats m 0 c) 10 t (idleAt0_10 t (fun h => h0 ((hcond0_0 t).mp h))) (noFlush0_10 t h1)]
    rw [PhiS_castSucc m c t, PhiS_pos m c _ _ (by omega)]
    simp only [before0_7 m c t h0, before0_10 m c t h0]
    rw [lastly_middle m c t h0 h1, maxAt_later m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_middle c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexists _; iexact H9
    isplitl [H10]; · iexact H10
    isplitl [HS0]; · iexact HS0
    iintro ⟨H0, H1, H2, H3, H4, H5, H6, H7, H8, H9, H10, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; iexact H8
    isplitl [H9]; · iexact H9
    iexists d10; iexact H10

set_option maxHeartbeats 4000000 in
/-- The obligation at the last point. -/
theorem sound_last (c : Dev nD) (t : Fin cfg0.N) (h0 : ¬t.val % 144 = 0) (h1 : t.val % 144 = 143) :
    bodyPre m c t ⊢ wp frame (wpE (defs₀ (F := F)) Variants.none c none) Set.univ (bodyAt0 t) (fun _ => bodyPost m c t) := by
    have hN : t.val < 144 := lt_of_lt_of_eq t.isLt (show cfg0.N = 144 from N_0)
    unfold bodyPre bodyPost bodyAt0
    simp only [before0_0, before0_1, before0_2, before0_3, before0_4, before0_5]
    rw [show (dats m 0 c).owesAt () t.succ = (dats m 0 c).owesAt () t.castSucc from rfl]
    rw [show (dats m 0 c).Φ t.succ = PhiS m c (t.val + 1) t.isLt from rfl, PhiS_succ]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 9 t = owns (c : Thread nD τ) (ms0_9 t) fullShare ((dats m 0 c).after 9 t) from by
      unfold Dat.leavesExact; rw [liveAt0_9 t], after0_9]
    rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1)], after0_8]
    rw [show (dats m 0 c).leavesExact 10 t = owns (c : Thread nD τ) (ms0_10 t) fullShare ((dats m 0 c).after 10 t) from by
      unfold Dat.leavesExact; rw [idleAt0_10 t (fun h => h0 ((hcond0_0 t).mp h)), (flush0_10 t).mpr h1], after0_10]
    rw [PhiS_castSucc m c t, PhiS_pos m c _ _ (by omega)]
    simp only [before0_7 m c t h0, before0_10 m c t h0]
    rw [lastly_last m c t h0 h1, maxAt_later m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_last c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexists _; iexact H8
    isplitl [H9]; · iexists _; iexact H9
    isplitl [H10]; · iexact H10
    isplitl [HS0]; · iexact HS0
    iintro ⟨H0, H1, H2, H3, H4, H5, H6, H7, H8, H9, H10, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 144 = 0
  · exact sound_first m c t h0
  · by_cases h1 : t.val % 144 = 143
    · exact sound_last m c t h0 h1
    · exact sound_middle m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 144 := N_0; omega), PhiA0_eq]
  iintro ⟨HS0, Hg⟩
  isplitl [HS0]
  · iexists _; iexact HS0
  iexact Hg

/-! ## The run and the frame -/

set_option backward.isDefEq.respectTransparency.types false in
/-- Every execution ends, with every array of the pipeline at what the proof data says, every other buffer as the
    region found it and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame claim: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.KernelFrame.lean ====
/- The kernel's frame in the machine's words. The program printed for the words is the one printed for the extended
   reals, under another name, and the frame was proved of it whatever the numbers are. -/
module

public import proofs.«01_k».proof.Proof.RunData
public import proofs.«01_k».proof.Proof.Gen.Kernel

@[expose] public section

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The two printed programs are one. -/
theorem main_eq : (main (F := F)) = Cert.KernelIdeal.main (F := F) := rfl

/-- And so are the bodies that their pipelines call. -/
theorem body_eq : (cc0__body (F := F)) = Cert.KernelIdeal.cc0__body (F := F) := rfl

/-- And so are the tables of bodies: each has one label. -/
theorem defs₀_eq : (defs₀ (F := F)) = Cert.KernelIdeal.defs₀ (F := F) := by
  funext p ℓ a
  match p with
  | .tc =>
    match ℓ, a with
    | 0, (t, s) => rfl
    | ⟨_ + 1, h⟩, _ => exact absurd h (Nat.not_lt.2 (Nat.le_add_left _ _))
  | .scScalar _ => rfl
  | .scVector _ _ => rfl

/-- And so are the procedures that the programs call. -/
theorem defs_eq : (defs (F := F)) = Cert.KernelIdeal.defs (F := F) :=
  congrArg (Pipeline.defs (pcfgs (F := F))) defs₀_eq

/-- The frame claim: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [main_eq, defs_eq]
  exact Cert.KernelIdeal.Hand.frame m ρ

end Cert.Kernel.Hand
end
-- ==== Proof.KernelRun.lean ====
/- The kernel's run: what memory holds after it, each result array by its name and the arguments as they were. -/
module

public import proofs.«01_k».proof.Proof.RunData

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v5_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v5_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v5_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v5_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v5_4) = (dats m 0 c).arrAt 10 cfg0.N :=
  (h c).1 10

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N` —, the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 6 cfg0.N
      ∧ r.2.mem ((c : Thread nD τ).loc main_v5_1) = (dats m 0 c).arrAt 7 cfg0.N
      ∧ r.2.mem ((c : Thread nD τ).loc main_v5_2) = (dats m 0 c).arrAt 8 cfg0.N
      ∧ r.2.mem ((c : Thread nD τ).loc main_v5_3) = (dats m 0 c).arrAt 9 cfg0.N
      ∧ r.2.mem ((c : Thread nD τ).loc main_v5_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c⟩)
    (run_main m ρ)

end Cert.KernelIdeal.Hand
end
-- ==== Proof.ReferenceRun.lean ====
/- The reference's run: what memory holds after it, each result array by its name and the arguments as they were. -/
module

public import proofs.«01_k».proof.Proof.Gen.ReferenceIdeal.Frame

@[expose] public section

set_option maxRecDepth 16384

noncomputable section

namespace Cert.ReferenceIdeal.Hand

open Cert.ReferenceIdeal Cert.ReferenceIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v5_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v5_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v5_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v5_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v5_4) = (dats m 0 c).arrAt 10 cfg0.N :=
  (h c).1 10

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N` —, the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 6 cfg0.N
      ∧ r.2.mem ((c : Thread nD τ).loc main_v5_1) = (dats m 0 c).arrAt 7 cfg0.N
      ∧ r.2.mem ((c : Thread nD τ).loc main_v5_2) = (dats m 0 c).arrAt 8 cfg0.N
      ∧ r.2.mem ((c : Thread nD τ).loc main_v5_3) = (dats m 0 c).arrAt 9 cfg0.N
      ∧ r.2.mem ((c : Thread nD τ).loc main_v5_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c⟩)
    (run_main m ρ)

end Cert.ReferenceIdeal.Hand
end
-- ==== Proof.Arrays.lean ====
/- The arrays the kernel leaves: which entries of its arguments each point's blocks hold, and what each result
   holds after the last point in terms of what the points compute. -/
module

public import proofs.«01_k».proof.Proof.RunData
public import Idealize.ShloMosaic.Lib.Pipeline.ValueKit
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-! ## The blocks -/

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index9 : ∀ t : Fin cfg0.N, win0_9.index t = ![t.val, 0] := (by decide +kernel : ∀ t : Fin grid0.N, _)

theorem points (t : Fin cfg0.N) : t.val < 144 := lt_of_lt_of_eq t.isLt (show cfg0.N = 144 from N_0)

/-- Row `i` of point `t`'s blocks is row `256·t + i` of the arrays. -/
def rowOf (t : Fin cfg0.N) (i : Fin 256) : Fin 36864 := ⟨t.val * 256 + i.val, by have := points t; omega⟩

theorem blk0 (c : Dev nD) (t : Fin cfg0.N) : iblk m c 0 t = V m c main_v0 := by
  funext y; blk_simp [iblk]; blk_ext [index0 t]
theorem blk1 (c : Dev nD) (t : Fin cfg0.N) : iblk m c 1 t = V m c main_v1 := by
  funext y; blk_simp [iblk]; blk_ext [index1 t]
theorem blk2 (c : Dev nD) (t : Fin cfg0.N) : iblk m c 2 t = V m c main_v2 := by
  funext y; blk_simp [iblk]; blk_ext [index2 t]
theorem blk5 (c : Dev nD) (t : Fin cfg0.N) : iblk m c 5 t = V m c main_arg3 := by
  funext y; blk_simp [iblk]; blk_ext [index5 t]
theorem blk3 (c : Dev nD) (t : Fin cfg0.N) (i : Fin 256) (j : Fin 4864) :
    iblk m c 3 t (ValueIdx.ix2 i j) = V m c main_v3 (ValueIdx.ix2 (rowOf t i) j) := by
  blk_simp [iblk]; blk_ext [index3 t, rowOf]
theorem blk4 (c : Dev nD) (t : Fin cfg0.N) (i : Fin 256) (j : Fin 1792) :
    iblk m c 4 t (ValueIdx.ix2 i j) = V m c main_v4 (ValueIdx.ix2 (rowOf t i) j) := by
  blk_simp [iblk]; blk_ext [index4 t, rowOf]

/-! ## The results -/

theorem final6 (c : Dev nD) (G : S36864x1792.Idx → Elt F .bf16)
    (h : ∀ (t : Fin cfg0.N) (i : Fin 256) (k : Fin 1792), dxV (iblk m c 0 t) (iblk m c 2 t) (iblk m c 3 t) (iblk m c 5 t) (ValueIdx.ix2 i k) = G (ValueIdx.ix2 (rowOf t i) k)) :
    (dats m 0 c).arrAt 6 cfg0.N = G := by
  refine (dats m 0 c).arrAt_eq_of_covers 6 _ (by decide +kernel) fun t hf y => ?_
  blk_simp
  rw [after0_6]
  obtain ⟨i, k, rfl⟩ : ∃ (i : Fin 256) (k : Fin 1792), y = ValueIdx.ix2 i k := ⟨_, _, ValueIdx.eq_ix2 y⟩
  refine (h t i k).trans (congrArg G ?_)
  blk_ext [index6 t, rowOf]

theorem final9 (c : Dev nD) (G : S36864x4864.Idx → Elt F .fp8e4m3)
    (h : ∀ (t : Fin cfg0.N) (i : Fin 256) (j : Fin 4864), codesV (iblk m c 0 t) (iblk m c 3 t) (ValueIdx.ix2 i j) = G (ValueIdx.ix2 (rowOf t i) j)) :
    (dats m 0 c).arrAt 9 cfg0.N = G := by
  refine (dats m 0 c).arrAt_eq_of_covers 9 _ (by decide +kernel) fun t hf y => ?_
  blk_simp
  rw [after0_9]
  obtain ⟨i, k, rfl⟩ : ∃ (i : Fin 256) (k : Fin 4864), y = ValueIdx.ix2 i k := ⟨_, _, ValueIdx.eq_ix2 y⟩
  refine (h t i k).trans (congrArg G ?_)
  blk_ext [index9 t, rowOf]

/-- The last point of the grid. -/
def lastPoint : Fin cfg0.N := ⟨143, by decide⟩

theorem final7 (c : Dev nD) :
    (dats m 0 c).arrAt 7 cfg0.N = dwV (V m c main_v0) (V m c main_v1) (sumAt m c 143 (by decide)) := by
  refine (dats m 0 c).arrAt_eq_of_after_last 7 lastPoint (by decide +kernel) _ fun j => ?_
  blk_simp
  rw [after0_7, lastly, if_pos (show lastPoint.val % 144 = 143 from rfl), blk0, blk1]
  refine congrArg (dwV _ _ (sumAt m c 143 _)) ?_
  blk_ext

theorem final8 (c : Dev nD) : (dats m 0 c).arrAt 8 cfg0.N = maxAt m c 143 (by decide) := by
  refine (dats m 0 c).arrAt_eq_of_after_last 8 lastPoint (by decide +kernel) _ fun j => ?_
  blk_simp
  rw [after0_8]
  refine congrArg (maxAt m c 143 _) ?_
  blk_ext

theorem final10 (c : Dev nD) : (dats m 0 c).arrAt 10 cfg0.N = scaleAt m c := by
  refine (dats m 0 c).arrAt_eq_of_after_last 10 lastPoint (by decide +kernel) _ fun j => ?_
  blk_simp
  rw [after0_10]
  blk_ext

end Cert.KernelIdeal.Hand
end
-- ==== Proof.Exponent.lean ====
/- The exponent arithmetic over the extended reals, one number at a time: eight comparisons against powers of two find the
   exponent field of a magnitude, and the words the exponent is shifted into denote the powers of two that the base-two
   logarithm, rounded down, names. -/
module

public import Idealize.ShloMosaic.PureOps.Ideal.Laws

@[expose] public section

set_option maxRecDepth 16384

noncomputable section

namespace Cert.Exponent

open Idealize.ShloMosaic

/-! ## The words that hold an exponent field and nothing else -/

/-- What the word with exponent field `n` and no other bit denotes. -/
def thr (n : ℕ) : EReal := Ideal.ofBits .f32 (BitVec.ofNat 32 (n * 2 ^ 23))

theorem thr_eq (n : ℕ) (h0 : 1 ≤ n) (h1 : n ≤ 254) : thr n = (((2 : ℝ) ^ ((n : ℤ) - 127) : ℝ) : EReal) := by
  have a : (BitVec.ofNat 32 (n * 2 ^ 23)).toNat = n * 2 ^ 23 := by rw [BitVec.toNat_ofNat]; omega
  have hex : ((BitVec.ofNat 32 (n * 2 ^ 23)).extractLsb' 23 8).toNat = n := by
    rw [BitVec.extractLsb'_toNat, a, Nat.shiftRight_eq_div_pow]; omega
  have hfr : ((BitVec.ofNat 32 (n * 2 ^ 23)).extractLsb' 0 23).toNat = 0 := by
    rw [BitVec.extractLsb'_toNat, a, Nat.shiftRight_eq_div_pow]; omega
  have hs : ((BitVec.ofNat 32 (n * 2 ^ 23)).extractLsb' (23 + 8) 1).toNat = 0 := by
    rw [BitVec.extractLsb'_toNat, a, Nat.shiftRight_eq_div_pow]; omega
  have hs' : ((BitVec.ofNat 32 (n * 2 ^ 23)).extractLsb' (8 + 23) 1 == 1#1) = false := by
    rw [beq_eq_false_iff_ne]
    intro h
    have := congrArg BitVec.toNat h
    rw [show 8 + 23 = 23 + 8 from rfl, hs] at this
    exact absurd this (by decide)
  unfold thr
  show Ideal.ieee 8 23 (BitVec.ofNat 32 (n * 2 ^ 23)) = _
  unfold Ideal.ieee
  simp only [hex, hfr, hs']
  rw [if_neg (by omega), if_neg (by omega)]
  congr 1
  have e : ((2 : ℝ) ^ ((n : ℤ) - 127)) = 2 ^ 23 * (2 : ℝ) ^ ((n : ℤ) - 127 - 23) := by
    rw [← zpow_natCast (2 : ℝ) 23, ← zpow_add₀ (by norm_num : (2 : ℝ) ≠ 0)]
    congr 1
    push_cast
    ring
  rw [e]
  norm_num

theorem word_zero : BitVec.ofNat 32 (0 * 2 ^ 23) = 0x00000000#32 := by norm_num
theorem word_tiny : BitVec.ofNat 32 (1 * 2 ^ 23) = 0x00800000#32 := by norm_num
theorem word_one : BitVec.ofNat 32 (127 * 2 ^ 23) = 0x3F800000#32 := by norm_num
theorem word_two : BitVec.ofNat 32 (128 * 2 ^ 23) = 0x40000000#32 := by norm_num
theorem word_top : BitVec.ofNat 32 (255 * 2 ^ 23) = 0x7F800000#32 := by norm_num

theorem thr_zero : thr 0 = 0 := by
  unfold thr
  rw [word_zero]
  exact Ideal.ofBits_zero_f32

theorem thr_top : thr 255 = ⊤ := by
  unfold thr
  rw [word_top]
  simp [Ideal.ofBits, Ideal.ieee]

theorem shift_field (n : ℕ) : IntOp.shli .vector (BitVec.ofNat 32 n) 23#32 = BitVec.ofNat 32 (n * 2 ^ 23) := by
  unfold IntOp.shli
  have h23 : (23#32).toNat = 23 := by decide
  rw [if_pos (by decide)]
  apply BitVec.eq_of_toNat_eq
  rw [BitVec.shiftLeft_eq', h23, BitVec.toNat_shiftLeft, BitVec.toNat_ofNat, BitVec.toNat_ofNat, Nat.shiftLeft_eq]
  omega

/-! ## The eight comparisons -/

/-- One step of the search: the field `k` or `k + bit`, whichever is the larger whose word does not exceed `x`. -/
def pick (x : EReal) (bit k : BitVec 32) : BitVec 32 :=
  Scalar.select (Ideal.cmp .olt x (Ideal.ofBits .f32 (IntOp.shli .vector (IntOp.addi k bit) 23#32))) k (IntOp.addi k bit)

/-- The exponent field of the magnitude `x`. -/
def field (x : EReal) : BitVec 32 :=
  pick x 1#32 (pick x 2#32 (pick x 4#32 (pick x 8#32 (pick x 16#32 (pick x 32#32 (pick x 64#32 (pick x 128#32 0#32)))))))

/-- `k` is a field below 256, a multiple of nothing in particular, whose word does not exceed `x`, while the word of
    the field `w` further on does if there is one. -/
def Within (x : EReal) (w : ℕ) (k : BitVec 32) : Prop :=
  ∃ n : ℕ, k = BitVec.ofNat 32 n ∧ n + w ≤ 256 ∧ thr n ≤ x ∧ (n + w ≤ 255 → x < thr (n + w))

theorem within_pick (x : EReal) (b : ℕ) (hb : 1 ≤ b) (k : BitVec 32) (h : Within x (b + b) k) :
    Within x b (pick x (BitVec.ofNat 32 b) k) := by
  obtain ⟨n, rfl, hn, hle, hlt⟩ := h
  have ha : IntOp.addi (BitVec.ofNat 32 n) (BitVec.ofNat 32 b) = BitVec.ofNat 32 (n + b) := by
    unfold IntOp.addi; rw [← BitVec.ofNat_add]
  unfold pick
  rw [ha, shift_field]
  by_cases hx : x < thr (n + b)
  · refine ⟨n, ?_, by omega, hle, fun _ => hx⟩
    unfold Ideal.cmp Scalar.select
    rw [show (decide (x < Ideal.ofBits .f32 (BitVec.ofNat 32 ((n + b) * 2 ^ 23)))) = true from decide_eq_true hx]
    rfl
  · refine ⟨n + b, ?_, by omega, not_lt.mp hx, fun hh => ?_⟩
    · unfold Ideal.cmp Scalar.select
      rw [show (decide (x < Ideal.ofBits .f32 (BitVec.ofNat 32 ((n + b) * 2 ^ 23)))) = false from decide_eq_false hx]
      rfl
    · rw [Nat.add_assoc]; exact hlt (by omega)

theorem within_field (x : EReal) (h0 : 0 ≤ x) : Within x 1 (field x) := by
  have s0 : Within x (128 + 128) 0#32 := ⟨0, rfl, by omega, by rw [thr_zero]; exact h0, fun h => by omega⟩
  exact within_pick x 1 (by omega) _ (within_pick x 2 (by omega) _ (within_pick x 4 (by omega) _ (within_pick x 8 (by omega) _
    (within_pick x 16 (by omega) _ (within_pick x 32 (by omega) _ (within_pick x 64 (by omega) _ (within_pick x 128 (by omega) _ s0)))))))

/-! ## The exponent, its power of two and its inverse -/

/-- The exponent as the kernel forms it: the field less 126, zero at the two ends of the range. -/
def expo (k : BitVec 32) : BitVec 32 :=
  Scalar.select (IntOp.ori (IntOp.cmpi .eq k 0#32) (IntOp.cmpi .eq k 255#32)) 0#32 (IntOp.subi k 126#32)

/-- The power of two of an exponent, by its word. -/
def power (e : BitVec 32) : EReal := Ideal.ofBits .f32 (IntOp.shli .vector (IntOp.addi e 127#32) 23#32)

/-- The exponent as the reference forms it: the base-two logarithm rounded down, and one; zero below the normal
    numbers and at infinity. -/
def refExpo (x : EReal) : EReal :=
  Scalar.select (IntOp.ori (Ideal.cmp .olt x (Ideal.ofBits .f32 0x00800000#32)) (Ideal.cmp .oeq x (Ideal.ofBits .f32 0x7F800000#32)))
    (Ideal.ofBits .f32 0x00000000#32)
    (Ideal.liftRound Int.floor (Ideal.div (Ideal.log x) (Ideal.log (Ideal.ofBits .f32 0x40000000#32))) + Ideal.ofBits .f32 0x3F800000#32)

theorem ofBits_two : Ideal.ofBits .f32 0x40000000#32 = ((2 : ℝ) : EReal) := by
  have := thr_eq 128 (by omega) (by omega)
  unfold thr at this
  rw [word_two] at this
  rw [this]
  norm_num

theorem ofBits_one : Ideal.ofBits .f32 0x3F800000#32 = ((1 : ℝ) : EReal) := by
  have := thr_eq 127 (by omega) (by omega)
  unfold thr at this
  rw [word_one] at this
  rw [this]
  norm_num

theorem tiny_eq : Ideal.ofBits .f32 0x00800000#32 = thr 1 := by unfold thr; rw [word_tiny]
theorem inf_eq : Ideal.ofBits .f32 0x7F800000#32 = thr 255 := by unfold thr; rw [word_top]

theorem power_zero : power 0#32 = 1 := by
  have : power 0#32 = Ideal.ofBits .f32 0x3F800000#32 := by
    unfold power
    rw [show IntOp.addi 0#32 127#32 = BitVec.ofNat 32 127 from rfl, shift_field, word_one]
  rw [this, ofBits_one]; rfl

theorem exp2_int (z : ℤ) : Ideal.exp2 (((z : ℝ) : ℝ) : EReal) = (((2 : ℝ) ^ z : ℝ) : EReal) := by
  show ((Real.rpow 2 (z : ℝ) : ℝ) : EReal) = _
  congr 1
  exact Real.rpow_intCast 2 z

/-- Below the normal numbers both exponents are zero. -/
theorem small (x : EReal) (h0 : 0 ≤ x) (h : x < thr 1) : expo (field x) = 0#32 ∧ refExpo x = 0 := by
  constructor
  · obtain ⟨n, hk, hn, hle, hlt⟩ := within_field x h0
    have : n = 0 := by
      by_contra hne
      have h1 : thr 1 ≤ thr n := by
        by_cases hn' : n = 255
        · rw [hn', thr_top]; exact le_top
        · rw [thr_eq 1 (by omega) (by omega), thr_eq n (by omega) (by omega), EReal.coe_le_coe_iff]
          exact zpow_le_zpow_right₀ (by norm_num) (by omega)
      exact absurd (lt_of_lt_of_le h (h1.trans hle)) (lt_irrefl _)
    rw [hk, this]; rfl
  · unfold refExpo
    rw [tiny_eq]
    unfold Ideal.cmp
    rw [show decide (x < thr 1) = true from decide_eq_true h]
    have : IntOp.ori (BitVec.ofBool true) (BitVec.ofBool (decide (x = Ideal.ofBits .f32 0x7F800000#32))) = 1 := by
      cases decide (x = Ideal.ofBits .f32 0x7F800000#32) <;> rfl
    unfold Scalar.select
    rw [if_pos this]; exact Ideal.ofBits_zero_f32

/-- At infinity both exponents are zero. -/
theorem infinite : expo (field ⊤) = 0#32 ∧ refExpo ⊤ = 0 := by
  constructor
  · obtain ⟨n, hk, hn, hle, hlt⟩ := within_field ⊤ le_top
    have : n = 255 := by
      by_contra hne
      exact absurd (hlt (by omega)) not_top_lt
    rw [hk, this]; rfl
  · unfold refExpo
    rw [inf_eq, thr_top]
    unfold Ideal.cmp
    rw [show decide ((⊤ : EReal) = ⊤) = true from decide_eq_true rfl]
    have : IntOp.ori (BitVec.ofBool (decide ((⊤ : EReal) < Ideal.ofBits .f32 0x00800000#32))) (BitVec.ofBool true) = 1 := by
      cases decide ((⊤ : EReal) < Ideal.ofBits .f32 0x00800000#32) <;> rfl
    unfold Scalar.select
    rw [if_pos this]; exact Ideal.ofBits_zero_f32

/-- In between both name the same integer. -/
theorem normal (r : ℝ) (h1 : thr 1 ≤ ((r : ℝ) : EReal)) (h2 : ((r : ℝ) : EReal) < thr 253) :
    ∃ n : ℕ, 1 ≤ n ∧ n ≤ 252 ∧ expo (field r) = BitVec.ofNat 32 n - 126#32 ∧ refExpo r = ((((n : ℤ) - 126 : ℤ) : ℝ) : EReal) := by
  have hr : (0 : ℝ) < r := by
    rw [thr_eq 1 (by omega) (by omega), EReal.coe_le_coe_iff] at h1
    exact lt_of_lt_of_le (by positivity) h1
  obtain ⟨n, hk, hn, hle, hlt⟩ := within_field (r : EReal) (EReal.coe_nonneg.mpr hr.le)
  have hn0 : n ≠ 0 := fun h => by
    rw [h] at hlt; exact absurd (lt_of_lt_of_le (hlt (by omega)) h1) (lt_irrefl _)
  have hn1 : n < 253 := by
    by_contra hc
    have : thr 253 ≤ thr n := by
      by_cases hn' : n = 255
      · rw [hn', thr_top]; exact le_top
      · rw [thr_eq 253 (by omega) (by omega), thr_eq n (by omega) (by omega), EReal.coe_le_coe_iff]
        exact zpow_le_zpow_right₀ (by norm_num) (by omega)
    exact absurd (lt_of_le_of_lt (this.trans hle) h2) (lt_irrefl _)
  refine ⟨n, by omega, by omega, ?_, ?_⟩
  · have e0 : (BitVec.ofNat 32 n == 0#32) = false := by
      rw [beq_eq_false_iff_ne]; intro h
      have := congrArg BitVec.toNat h
      rw [BitVec.toNat_ofNat, BitVec.toNat_ofNat] at this; omega
    have e1 : (BitVec.ofNat 32 n == 255#32) = false := by
      rw [beq_eq_false_iff_ne]; intro h
      have := congrArg BitVec.toNat h
      rw [BitVec.toNat_ofNat, BitVec.toNat_ofNat] at this; omega
    rw [hk]
    unfold expo IntOp.cmpi
    simp only [e0, e1]
    rfl
  · have hlo := hle
    have hhi := hlt (by omega)
    rw [thr_eq n (by omega) (by omega), EReal.coe_le_coe_iff] at hlo
    rw [thr_eq (n + 1) (by omega) (by omega), EReal.coe_lt_coe_iff] at hhi
    have l2 : (0 : ℝ) < Real.log 2 := Real.log_pos (by norm_num)
    have hfl : ⌊Real.log r / Real.log 2⌋ = (n : ℤ) - 127 := by
      rw [Int.floor_eq_iff]
      constructor
      · rw [le_div_iff₀ l2, ← Real.log_zpow]
        exact Real.log_le_log (by positivity) hlo
      · rw [div_lt_iff₀ l2]
        have : (((n : ℤ) - 127 : ℤ) : ℝ) + 1 = (((n + 1 : ℕ) : ℤ) - 127 : ℤ) := by push_cast; ring
        rw [this, ← Real.log_zpow]
        exact Real.log_lt_log hr hhi
    unfold refExpo
    rw [tiny_eq, inf_eq, thr_top, ofBits_two, ofBits_one]
    unfold Ideal.cmp
    rw [show decide ((r : EReal) < thr 1) = false from decide_eq_false (not_lt.mpr h1),
      show decide ((r : EReal) = ⊤) = false from decide_eq_false (EReal.coe_ne_top r)]
    unfold Scalar.select
    have hc : IntOp.ori (BitVec.ofBool false) (BitVec.ofBool false) ≠ 1 := by decide
    rw [if_neg hc]
    have lr : Ideal.log (r : EReal) = ((Real.log r : ℝ) : EReal) := by
      show (if r ≤ 0 then (⊥ : EReal) else (Real.log r : EReal)) = _
      rw [if_neg (not_le.mpr hr)]
    have l2' : Ideal.log ((2 : ℝ) : EReal) = ((Real.log 2 : ℝ) : EReal) := by
      show (if (2 : ℝ) ≤ 0 then (⊥ : EReal) else (Real.log 2 : EReal)) = _
      rw [if_neg (by norm_num)]
    rw [lr, l2']
    have hd : Ideal.div ((Real.log r : ℝ) : EReal) ((Real.log 2 : ℝ) : EReal) = ((Real.log r / Real.log 2 : ℝ) : EReal) := by
      unfold Ideal.div
      rw [if_neg (by rw [← EReal.coe_zero, EReal.coe_eq_coe_iff]; exact l2.ne'), ← EReal.coe_inv, ← EReal.coe_mul, div_eq_mul_inv]
    rw [hd]
    show ((⌊Real.log r / Real.log 2⌋ : ℝ) : EReal) + ((1 : ℝ) : EReal) = _
    rw [hfl, ← EReal.coe_add]
    congr 1
    push_cast
    ring

/-- The kernel's scale is two to the reference's exponent. -/
theorem power_expo (x : EReal) (h0 : 0 ≤ x) (h : x < thr 253 ∨ x = ⊤) : power (expo (field x)) = Ideal.exp2 (refExpo x) := by
  have z : Ideal.exp2 0 = 1 := by
    have := exp2_int 0
    simpa using this
  rcases h with h | rfl
  · by_cases hs : x < thr 1
    · rw [(small x h0 hs).1, (small x h0 hs).2, power_zero, z]
    · induction x using EReal.rec with
      | bot => exact absurd h0 (by simp)
      | top => exact absurd h not_top_lt
      | coe r =>
        obtain ⟨n, a, b, he, hr⟩ := normal r (not_lt.mp hs) h
        rw [he, hr, exp2_int]
        unfold power
        have : IntOp.addi (BitVec.ofNat 32 n - 126#32) 127#32 = BitVec.ofNat 32 (n + 1) := by
          unfold IntOp.addi
          apply BitVec.eq_of_toNat_eq
          simp only [BitVec.toNat_add, BitVec.toNat_sub, BitVec.toNat_ofNat]
          omega
        rw [this, shift_field]
        refine (thr_eq (n + 1) (by omega) (by omega)).trans ?_
        congr 2
        push_cast
        ring
  · rw [infinite.1, infinite.2, power_zero, z]

/-- The kernel's inverse scale is two to the reference's exponent negated. -/
theorem power_neg_expo (x : EReal) (h0 : 0 ≤ x) (h : x < thr 253 ∨ x = ⊤) :
    power (IntOp.subi 0#32 (expo (field x))) = Ideal.exp2 (Ideal.ofBits .f32 0x00000000#32 - refExpo x) := by
  have z : Ideal.exp2 (0 - 0) = 1 := by
    have := exp2_int 0
    simpa using this
  rw [Ideal.ofBits_zero_f32]
  rcases h with h | rfl
  · by_cases hs : x < thr 1
    · rw [(small x h0 hs).1, (small x h0 hs).2, show IntOp.subi 0#32 0#32 = 0#32 from rfl, power_zero, z]
    · induction x using EReal.rec with
      | bot => exact absurd h0 (by simp)
      | top => exact absurd h not_top_lt
      | coe r =>
        obtain ⟨n, a, b, he, hr⟩ := normal r (not_lt.mp hs) h
        have hneg : (0 : EReal) - ((((n : ℤ) - 126 : ℤ) : ℝ) : EReal) = (((126 - (n : ℤ) : ℤ) : ℝ) : EReal) := by
          rw [← EReal.coe_zero, ← EReal.coe_sub]
          congr 1
          push_cast
          ring
        rw [he, hr, hneg, exp2_int]
        unfold power
        have : IntOp.addi (IntOp.subi 0#32 (BitVec.ofNat 32 n - 126#32)) 127#32 = BitVec.ofNat 32 (253 - n) := by
          unfold IntOp.addi IntOp.subi
          apply BitVec.eq_of_toNat_eq
          simp only [BitVec.toNat_add, BitVec.toNat_sub, BitVec.toNat_ofNat]
          omega
        rw [this, shift_field]
        refine (thr_eq (253 - n) (by omega) (by omega)).trans ?_
        congr 2
        omega
  · rw [infinite.1, infinite.2, show IntOp.subi 0#32 0#32 = 0#32 from rfl, power_zero, z]

end Cert.Exponent
-- ==== Proof.Common.lean ====
/- Facts used for the kernel and for the reference alike: the product whose two first axes are contracted, a
   maximum over some axes by what bounds it and by what all its entries have, and the clamp of the quantiser. -/
module

public import proofs.«01_k».proof.Proof.Exponent
public import Idealize.ShloMosaic.Lib.MatmulPlain
public import Idealize.ShloMosaic.Lib.ValueIdx
public import Idealize.ShloMosaic.Lib.Pipeline.Value

@[expose] public section

set_option maxRecDepth 16384

noncomputable section

namespace Cert.Common

open Idealize.ShloMosaic Idealize.ShloMosaic.ValueIdx
open scoped BigOperators

/-! ## One-entry arrays and the clamp -/

/-- A number times the inverse scale, clamped to the format's range. -/
def clamp (s v : EReal) : EReal :=
  min (Ideal.ofBits .f32 0x43E00000#32) (max (Ideal.ofBits .f32 0xC3E00000#32) (v * s))

theorem idx_one (j : (⟨2, ![1, 1]⟩ : Shape).Idx) : j = ix2 0 0 := by
  funext a; apply Fin.ext
  have := (j a).isLt
  match a with
  | ⟨0, _⟩ => exact Nat.lt_one_iff.mp this
  | ⟨1, _⟩ => exact Nat.lt_one_iff.mp this

theorem broadcast_one {α : Type} {a b : ℕ} (v : (⟨2, ![1, 1]⟩ : Shape).Idx → α) (hb : (⟨2, ![1, 1]⟩ : Shape).Broadcasts ⟨2, ![a, b]⟩) (i : (⟨2, ![a, b]⟩ : Shape).Idx) :
    broadcastTo ⟨2, ![a, b]⟩ v hb i = v (ix2 0 0) := congrArg v (idx_one _)

/-! ## The product with both first axes contracted -/

/-- The product `[K,M]ᵀ × [K,N]`: both first axes contracted. -/
def transposedLhs (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, (by decide : (([] ++ [1] ++ [0] : List (Fin 2))).Perm (List.finRange 2)),
    (by decide : (([] ++ [1] ++ [0] : List (Fin 2))).Perm (List.finRange 2)), rfl, by show 0 < 2; decide, fun a => by fin_cases a <;> rfl⟩

theorem transposedLhs_contr_rank (K M N : ℕ) : (transposedLhs K M N).contr.rank = 1 := rfl
theorem transposedLhs_contr_size (K M N : ℕ) :
    (transposedLhs K M N).contr.size ⟨0, by rw [transposedLhs_contr_rank]; exact Nat.one_pos⟩ = K := rfl

/-- That product read at (r, c): the accumulator plus Σ_k lhs[k,r] · rhs[k,c]. -/
theorem matmul_transposedLhs_apply {K M N : ℕ} {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (transposedLhs K M N) prec lhs rhs acc (ix2 r c) = acc (ix2 r c) + ∑ k : Fin K, lhs (ix2 k r) * rhs (ix2 k c) := by
  rw [Ideal.matmul_apply, ← Equiv.sum_comp (contrEquiv1 _ K (transposedLhs_contr_rank K M N) (transposedLhs_contr_size K M N)).symm]
  refine congrArg (acc (ix2 r c) + ·) (Finset.sum_congr rfl fun k _ => ?_)
  have hk := contrEquiv1_symm_val _ K (transposedLhs_contr_rank K M N) (transposedLhs_contr_size K M N) k
  have el : (transposedLhs K M N).lhsIdx (ix2 r c) ((contrEquiv1 _ K (transposedLhs_contr_rank K M N) (transposedLhs_contr_size K M N)).symm k) = ix2 k r := by
    funext a; apply Fin.ext
    match a with
    | ⟨0, _⟩ => exact hk
    | ⟨1, _⟩ => rfl
  have er : (transposedLhs K M N).rhsIdx (ix2 r c) ((contrEquiv1 _ K (transposedLhs_contr_rank K M N) (transposedLhs_contr_size K M N)).symm k) = ix2 k c := by
    funext a; apply Fin.ext
    match a with
    | ⟨0, _⟩ => exact hk
    | ⟨1, _⟩ => rfl
  rw [el, er]

/-! ## Maxima -/

theorem ofBits_bottom32 : (FloatOps.ofBits (F := Ideal) .f32 0xFF800000#32 : EReal) = ⊥ := by
  show Ideal.ofBits .f32 0xFF800000#32 = ⊥
  unfold Ideal.ofBits Ideal.ieee
  dsimp only
  rw [if_pos (by decide), if_pos (by decide), if_pos (by decide)]

theorem ofBits_bottom16 : (FloatOps.ofBits (F := Ideal) .bf16 0xFF80#16 : EReal) = ⊥ := by
  show Ideal.ofBits .bf16 0xFF80#16 = ⊥
  unfold Ideal.ofBits Ideal.ieee
  dsimp only
  rw [if_pos (by decide), if_pos (by decide), if_pos (by decide)]

/-- All entries of a reshaped array are bounded when all entries of the array are. -/
theorem shapeCast_le {β : Type} [LE β] {s t : Shape} (x : s.Idx → β) (h : s.ShapeCasts t) (z : β) :
    (∀ j, shapeCast t x h j ≤ z) ↔ ∀ i, x i ≤ z :=
  ⟨fun H i => by simpa [shapeCast] using H ((Shape.reshapeEquiv h).symm i), fun H j => H _⟩

/-- All maxima over some axes, taken from the bottom, are bounded when all entries are. -/
theorem max_le_all {s t : Shape} {φ : FTy} {axes : List (Fin s.rank)} (src : FVec Ideal s φ) (acc : BitVec φ.bits)
    (h : s.Reduces axes t) (hφ : FKind.Formats φ) (hacc : acc = FKind.maximumf.neutral φ hφ)
    (hb : (FloatOps.ofBits (F := Ideal) φ acc : EReal) = ⊥) (z : EReal) :
    (∀ j, (multiReduction (F := Ideal) .maximumf axes t src acc h hφ hacc j : EReal) ≤ z) ↔ ∀ i, (src i : EReal) ≤ z := by
  have e (j) : (multiReduction (F := Ideal) .maximumf axes t src acc h hφ hacc j : EReal)
      = (Finset.univ.filter fun i => h.drop i = j).fold max (⊥ : EReal) src := by
    rw [multiReduction_maximumf_eq_fold]
    exact congrArg (fun b => Finset.fold max b src _) hb
  simp only [e, Finset.fold_max_le]
  exact ⟨fun H i => (H (h.drop i)).2 i (by simp), fun H j => ⟨bot_le, fun i _ => H i⟩⟩

/-- What the bottom and every entry have, every maximum over some axes has, if the larger of two numbers has it. -/
theorem max_has {s t : Shape} {φ : FTy} {axes : List (Fin s.rank)} (src : FVec Ideal s φ) (acc : BitVec φ.bits)
    (h : s.Reduces axes t) (hφ : FKind.Formats φ) (hacc : acc = FKind.maximumf.neutral φ hφ)
    (hb : (FloatOps.ofBits (F := Ideal) φ acc : EReal) = ⊥) (P : EReal → Prop) (h0 : P ⊥)
    (hm : ∀ a b, P a → P b → P (max a b)) (hs : ∀ i, P (src i)) (j : t.Idx) :
    P (multiReduction (F := Ideal) .maximumf axes t src acc h hφ hacc j) := by
  have e : (multiReduction (F := Ideal) .maximumf axes t src acc h hφ hacc j : EReal)
      = (Finset.univ.filter fun i => h.drop i = j).fold max (⊥ : EReal) src := by
    rw [multiReduction_maximumf_eq_fold]
    exact congrArg (fun b => Finset.fold max b src _) hb
  rw [e]
  classical
  induction (Finset.univ.filter fun i => h.drop i = j) using Finset.induction_on with
  | empty => rw [Finset.fold_empty]; exact h0
  | insert a u ha ih => rw [Finset.fold_insert ha]; exact hm _ _ (hs a) ih

/-- The same for a maximum taken over some axes, reshaped, then over the axes left, and reshaped again. -/
theorem two_max_le {s t u v w : Shape} {φ ψ : FTy} {axes : List (Fin s.rank)} {axes' : List (Fin u.rank)} (src : FVec Ideal s φ)
    (acc : BitVec φ.bits) (h : s.Reduces axes t) (hφ : FKind.Formats φ) (hacc : acc = FKind.maximumf.neutral φ hφ)
    (hb : (FloatOps.ofBits (F := Ideal) φ acc : EReal) = ⊥) (hc : t.ShapeCasts u) (hbits : φ.bits < ψ.bits)
    (acc' : BitVec ψ.bits) (h' : u.Reduces axes' v) (hψ : FKind.Formats ψ) (hacc' : acc' = FKind.maximumf.neutral ψ hψ)
    (hb' : (FloatOps.ofBits (F := Ideal) ψ acc' : EReal) = ⊥) (hc' : v.ShapeCasts w) (z : EReal) :
    (∀ j, (shapeCast w (multiReduction (F := Ideal) .maximumf axes' v (extf ψ (shapeCast u
      (multiReduction (F := Ideal) .maximumf axes t src acc h hφ hacc) hc) hbits) acc' h' hψ hacc') hc' j : EReal) ≤ z)
      ↔ ∀ i, (src i : EReal) ≤ z := by
  refine (shapeCast_le (β := EReal) _ _ z).trans ?_
  refine (max_le_all _ _ _ _ _ hb' z).trans ?_
  refine Iff.trans ?_ (max_le_all src acc h hφ hacc hb z)
  exact shapeCast_le (β := EReal) (multiReduction (F := Ideal) .maximumf axes t src acc h hφ hacc) hc z

end Cert.Common
end
-- ==== Proof.Blocks.lean ====
/- What one point of the kernel's grid computes, read entry by entry over the extended reals: the scale and the
   codes by the exponent arithmetic, the blocks of dx and of the running sum for dw as sums of products, the
   running largest magnitude by what bounds it. -/
module

public import proofs.«01_k».proof.Proof.Steps
public import proofs.«01_k».proof.Proof.Common

@[expose] public section

set_option maxRecDepth 16384

noncomputable section

namespace Cert.KernelIdeal.Hand

open Cert.KernelIdeal Cert.KernelIdeal.Gen Cert.Exponent Cert.Common
open Idealize.ShloMosaic Idealize.ShloMosaic.ValueIdx
open scoped BigOperators

/-! ## The scale and the codes -/

/-- The magnitude the history row gives: its largest entry over 448, its sign dropped. -/
def mag (h : Vec Ideal S1x16 .f32) : EReal := k0_pay5 (F := Ideal) h (ix2 0 0)

/-- One comparison of the kernel's search, over one-entry vectors. -/
theorem pick_apply (v : FVec Ideal S1x1 .f32) (k : IVec S1x1 32) (bit : BitVec 32) (j : S1x1.Idx) :
    select (cmpf .olt v (bitcastToFloat .f32 (shli (addi k (broadcast S1x1 bit)) (broadcast S1x1 23#32)))) k
      (addi k (broadcast S1x1 bit)) j = pick (v j) bit (k j) := rfl

theorem pay6_apply (h : Vec Ideal S1x16 .f32) (j : S1x1.Idx) :
    k0_pay6 (F := Ideal) h j = pick (k0_pay5 (F := Ideal) h j) 32#32 (pick (k0_pay5 (F := Ideal) h j) 64#32 (pick (k0_pay5 (F := Ideal) h j) 128#32 0#32)) := by
  unfold k0_pay6
  generalize k0_pay5 (F := Ideal) h = v
  rw [pick_apply, pick_apply, pick_apply]
  rfl

theorem pay9_apply (v : FVec Ideal S1x1 .f32) (k : IVec S1x1 32) (q : IVec S1x1 1) (b : IVec S1x1 32) (j : S1x1.Idx) :
    k0_pay9 (F := Ideal) v k q b j
      = pick (v j) 1#32 (pick (v j) 2#32 (pick (v j) 4#32 (pick (v j) 8#32 (select q k (addi k b) j)))) := by
  unfold k0_pay9
  rw [pick_apply, pick_apply, pick_apply, pick_apply]

/-- The field the kernel's search ends at. -/
theorem field_eq (h : Vec Ideal S1x16 .f32) (j : S1x1.Idx) :
    k0_pay9 (F := Ideal) (k0_pay5 h) (k0_pay6 h) (k0_pay7 h) k0_pay8 j = field (mag h) := by
  rw [pay9_apply]
  have e : select (k0_pay7 (F := Ideal) h) (k0_pay6 (F := Ideal) h) (addi (k0_pay6 (F := Ideal) h) k0_pay8) j
      = pick (k0_pay5 (F := Ideal) h j) 16#32 (k0_pay6 (F := Ideal) h j) := by
    unfold k0_pay7 k0_pay8
    dsimp only
    rw [pick_apply]
  rw [e, pay6_apply, idx_one j]
  rfl

/-- The exponent the kernel goes on with. -/
theorem expo_eq (h : Vec Ideal S1x16 .f32) (j : S1x1.Idx) :
    k0_pay12 (k0_pay10 (F := Ideal) (k0_pay5 h) (k0_pay6 h) (k0_pay7 h) k0_pay8)
      (k0_pay11 (F := Ideal) (k0_pay5 h) (k0_pay6 h) (k0_pay7 h) k0_pay8) j = expo (field (mag h)) := by
  rw [← field_eq h j]
  unfold k0_pay12 k0_pay10 k0_pay11
  generalize k0_pay9 (F := Ideal) (k0_pay5 h) (k0_pay6 h) (k0_pay7 h) k0_pay8 = k
  rfl

theorem scaleV_apply (h : Vec Ideal S1x16 .f32) (j : S1x1.Idx) : scaleV (F := Ideal) h j = power (expo (field (mag h))) := by
  rw [← expo_eq h j]
  unfold scaleV k0_pay13
  generalize k0_pay12 (k0_pay10 (F := Ideal) (k0_pay5 h) (k0_pay6 h) (k0_pay7 h) k0_pay8)
      (k0_pay11 (F := Ideal) (k0_pay5 h) (k0_pay6 h) (k0_pay7 h) k0_pay8) = k
  rfl

theorem codesV_apply (h : Vec Ideal S1x16 .f32) (dy : Vec Ideal S256x4864 .bf16) (i : S256x4864.Idx) :
    codesV (F := Ideal) h dy i = clamp (power (IntOp.subi 0#32 (expo (field (mag h))))) (dy i) := by
  rw [← expo_eq h (ix2 0 0)]
  unfold codesV k0_pay15 k0_pay14
  generalize k0_pay12 (k0_pay10 (F := Ideal) (k0_pay5 h) (k0_pay6 h) (k0_pay7 h) k0_pay8)
      (k0_pay11 (F := Ideal) (k0_pay5 h) (k0_pay6 h) (k0_pay7 h) k0_pay8) = k
  rw [shapeCast_self]
  unfold clamp
  rw [truncf_apply, minimumf_apply, maximumf_apply, mulf_apply, broadcast_one]
  rfl

/-! ## The products -/

theorem dxV_apply (h : Vec Ideal S1x16 .f32) (ws : Vec Ideal S1x1 .f32) (dy : Vec Ideal S256x4864 .bf16)
    (w : Vec Ideal S1792x4864 .fp8e4m3) (i : Fin 256) (k : Fin 1792) :
    dxV (F := Ideal) h ws dy w (ix2 i k)
      = (Ideal.ofBits .f32 0x00000000#32 + ∑ j : Fin 4864, codesV (F := Ideal) h dy (ix2 i j) * w (ix2 k j))
        * (scaleV (F := Ideal) h (ix2 0 0) * ws (ix2 0 0)) := by
  unfold dxV k0_pay2
  generalize codesV (F := Ideal) h dy = q
  generalize scaleV (F := Ideal) h = s
  rw [shapeCast_self, shapeCast_self]
  refine (congrArg₂ (· * ·) ?_ (broadcast_one (mulf s ws) _ _) : _)
  exact Ideal.matmul_transposedRhs_apply none q w _ i k

theorem accV_apply (h : Vec Ideal S1x16 .f32) (dy : Vec Ideal S256x4864 .bf16) (x : Vec Ideal S256x1792 .fp8e4m3)
    (acc : Vec Ideal S1792x4864 .f32) (k : Fin 1792) (j : Fin 4864) :
    accV (F := Ideal) h dy x acc (ix2 k j)
      = acc (ix2 k j) + (Ideal.ofBits .f32 0x00000000#32 + ∑ i : Fin 256, x (ix2 i k) * codesV (F := Ideal) h dy (ix2 i j)) := by
  unfold accV k0_pay3
  generalize codesV (F := Ideal) h dy = q
  rw [shapeCast_self, shapeCast_self, shapeCast_self]
  exact congrArg (acc (ix2 k j) + ·) (matmul_transposedLhs_apply none x q _ k j)

theorem dwV_apply (h : Vec Ideal S1x16 .f32) (xs : Vec Ideal S1x1 .f32) (acc : Vec Ideal S1792x4864 .f32) (i : S1792x4864.Idx) :
    dwV (F := Ideal) h xs acc i = acc i * (xs (ix2 0 0) * scaleV (F := Ideal) h (ix2 0 0)) := by
  unfold dwV k0_pay4
  generalize scaleV (F := Ideal) h = s
  rw [shapeCast_self, shapeCast_self]
  exact congrArg (acc i * ·) (broadcast_one (mulf xs s) _ _)

/-! ## The running largest magnitude -/

/-- The largest magnitude of a block. -/
def peakV (dy : Vec Ideal S256x4864 .bf16) : FVec Ideal S1x1 .f32 :=
  shapeCast S1x1 (multiReduction (F := Ideal) .maximumf [1] S1 (extf .f32 (shapeCast S1x4864
    (multiReduction (F := Ideal) .maximumf [0] S4864 (absf dy) 0xFF80#16 reduces_S256x4864_S4864 (.inr rfl) rfl)
    shapeCasts_S4864_S1x4864) bitsLt_bf16_f32) 0xFF800000#32 reduces_S1x4864_S1 (.inl rfl) rfl) shapeCasts_S1_S1x1

theorem amaxV_eq (dy : Vec Ideal S256x4864 .bf16) (s : Vec Ideal S1x1 .f32) : amaxV (F := Ideal) dy s = maximumf s (peakV dy) := by
  unfold amaxV k0_pay1 k0_pay18 k0_pay14 peakV
  rw [shapeCast_self, shapeCast_self]

theorem peakV_le (dy : Vec Ideal S256x4864 .bf16) (z : EReal) :
    (∀ j, (peakV dy j : EReal) ≤ z) ↔ ∀ i, (absf (F := Ideal) (s := S256x4864) (φ := .bf16) dy i : EReal) ≤ z :=
  two_max_le (absf dy) _ _ _ _ ofBits_bottom16 _ _ _ _ _ _ ofBits_bottom32 _ z

/-- What bounds the running largest magnitude: it bounds the one before and every magnitude of the block. -/
theorem amaxV_le (dy : Vec Ideal S256x4864 .bf16) (s : Vec Ideal S1x1 .f32) (z : EReal) :
    (∀ j, (amaxV (F := Ideal) dy s j : EReal) ≤ z) ↔ (∀ j, (s j : EReal) ≤ z) ∧ ∀ i, (absf (F := Ideal) (s := S256x4864) (φ := .bf16) dy i : EReal) ≤ z := by
  rw [amaxV_eq, ← peakV_le]
  exact ⟨fun H => ⟨fun j => (max_le_iff.mp (H j)).1, fun j => (max_le_iff.mp (H j)).2⟩,
    fun H j => max_le_iff.mpr ⟨H.1 j, H.2 j⟩⟩

end Cert.KernelIdeal.Hand
end
-- ==== Proof.Bound.lean ====
/- The magnitude the history gives, kept below the point where its power of two would no longer fit the word: an
   entry that is a single-precision number (or infinite) leaves, over 448, a magnitude below 2^126 or an infinite one. -/
module

public import proofs.«01_k».proof.Proof.Blocks

@[expose] public section

set_option maxRecDepth 16384

noncomputable section

namespace Cert.KernelIdeal.Hand

open Cert.KernelIdeal Cert.KernelIdeal.Gen Cert.Exponent Cert.Common
open Idealize.ShloMosaic Idealize.ShloMosaic.ValueIdx

/-- The number's magnitude is at most the largest single-precision one, or infinite. -/
def Single (a : EReal) : Prop := max a (-a) ≤ Ideal.ofBits .f32 0x7F7FFFFF#32 ∨ max a (-a) = ⊤

theorem single_max (a b : EReal) (ha : Single a) (hb : Single b) : Single (max a b) := by
  rcases max_choice a b with h | h <;> rw [h] <;> assumption

theorem largest : Ideal.ofBits .f32 0x7F7FFFFF#32 ≤ (((2 : ℝ) ^ (128 : ℤ) : ℝ) : EReal) := by
  have h1 : (BitVec.extractLsb' 23 8 0x7F7FFFFF#32).toNat = 254 := by decide
  have h2 : (BitVec.extractLsb' 0 23 0x7F7FFFFF#32).toNat = 8388607 := by decide
  have h3 : (BitVec.extractLsb' (8 + 23) 1 0x7F7FFFFF#32 == 1#1) = false := by decide
  show Ideal.ieee 8 23 0x7F7FFFFF#32 ≤ _
  unfold Ideal.ieee
  simp only [h1, h2, h3]
  rw [if_neg (by omega), if_neg (by omega), EReal.coe_le_coe_iff]
  norm_num

/-- The factor 1/448, as the word that holds it. -/
theorem factor : ∃ r : ℝ, Ideal.ofBits .f32 0x3B124925#32 = ((r : ℝ) : EReal) ∧ 0 < r ∧ r < 1 / 8 := by
  have h1 : (BitVec.extractLsb' 23 8 0x3B124925#32).toNat = 118 := by decide
  have h2 : (BitVec.extractLsb' 0 23 0x3B124925#32).toNat = 1198373 := by decide
  have h3 : (BitVec.extractLsb' (8 + 23) 1 0x3B124925#32 == 1#1) = false := by decide
  show ∃ r : ℝ, Ideal.ieee 8 23 0x3B124925#32 = ((r : ℝ) : EReal) ∧ 0 < r ∧ r < 1 / 8
  unfold Ideal.ieee
  simp only [h1, h2, h3]
  rw [if_neg (by omega), if_neg (by omega)]
  refine ⟨_, rfl, ?_, ?_⟩ <;> norm_num

/-- The largest entry of the history. -/
theorem mag_eq (h : Vec Ideal S1x16 .f32) (hs : ∀ i, Single (h i)) :
    ∃ a : EReal, Single a ∧ mag h = max (a * Ideal.ofBits .f32 0x3B124925#32) (-(a * Ideal.ofBits .f32 0x3B124925#32)) := by
  have hx := max_has (s := S1x16) (t := S1) (φ := .f32) (axes := [1]) h 0xFF800000#32 reduces_S1x16_S1 (.inl rfl) rfl ofBits_bottom32
    Single (Or.inr (by simp)) single_max hs
  unfold mag k0_pay5
  rw [shapeCast_self]
  revert hx
  generalize multiReduction (F := Ideal) .maximumf [1] S1 (h : FVec Ideal S1x16 .f32) 0xFF800000#32 reduces_S1x16_S1 (.inl rfl) rfl = v
  intro hx
  exact ⟨_, hx _, rfl⟩

theorem mag_nonneg (h : Vec Ideal S1x16 .f32) : 0 ≤ mag h := by
  have e : ∃ y : EReal, mag h = max y (-y) := ⟨_, rfl⟩
  obtain ⟨y, e⟩ := e
  rw [e]
  rcases le_total 0 y with h | h
  · exact le_max_of_le_left h
  · exact le_max_of_le_right (by simpa using EReal.neg_le_neg_iff.mpr h)

theorem mag_bound (h : Vec Ideal S1x16 .f32) (hs : ∀ i, Single (h i)) : mag h < thr 253 ∨ mag h = ⊤ := by
  obtain ⟨a, ha, e⟩ := mag_eq h hs
  obtain ⟨r, hr, h0, h1⟩ := factor
  rw [e, hr]
  induction a using EReal.rec with
  | bot => right; rw [EReal.bot_mul_coe_of_pos h0]; simp
  | top => right; rw [EReal.top_mul_coe_of_pos h0]; simp
  | coe x =>
    left
    have hx : |x| ≤ 2 ^ (128 : ℤ) := by
      rcases ha with ha | ha
      · have := ha.trans largest
        rw [← EReal.coe_neg, ← EReal.coe_strictMono.monotone.map_max, EReal.coe_le_coe_iff] at this
        exact this
      · rw [← EReal.coe_neg, ← EReal.coe_strictMono.monotone.map_max] at ha
        exact absurd ha (EReal.coe_ne_top _)
    rw [thr_eq 253 (by omega) (by omega), ← EReal.coe_mul, ← EReal.coe_neg, ← EReal.coe_strictMono.monotone.map_max, EReal.coe_lt_coe_iff]
    show |x * r| < _
    rw [abs_mul, abs_of_pos h0]
    have h2 : |x| * r ≤ 2 ^ (128 : ℤ) * (1 / 8) := mul_le_mul hx h1.le h0.le (by positivity)
    refine h2.trans_lt ?_
    norm_num

end Cert.KernelIdeal.Hand
end
-- ==== Proof.Formulas.lean ====
/- What the two gradients, the codes and the scale are, entry by entry over whole arrays: the formulas the kernel and
   the reference are both shown to compute. -/
module

public import proofs.«01_k».proof.Proof.Blocks

@[expose] public section

set_option maxRecDepth 16384

noncomputable section

namespace Cert.Formulas

open Cert.Exponent Cert.Common
open Idealize.ShloMosaic
open scoped BigOperators

/-- An array with two axes, its entries extended reals. -/
abbrev Mat (a b : ℕ) : Type := (⟨2, ![a, b]⟩ : Shape).Idx → EReal

/-- The exponent of the scale. -/
def exponent (h : Mat 1 16) : EReal := refExpo (Cert.KernelIdeal.Hand.mag h)
/-- The scale. -/
def up (h : Mat 1 16) : EReal := Ideal.exp2 (exponent h)
/-- The inverse scale. -/
def down (h : Mat 1 16) : EReal := Ideal.exp2 (Ideal.ofBits .f32 0x00000000#32 - exponent h)

/-- The codes. -/
def codes (h : Mat 1 16) (dy : Mat 36864 4864) : Mat 36864 4864 := fun i => clamp (down h) (dy i)

/-- The gradient of the activations. -/
def dx (h : Mat 1 16) (ws : Mat 1 1) (dy : Mat 36864 4864) (w : Mat 1792 4864) : Mat 36864 1792 := fun i =>
  (Ideal.ofBits .f32 0x00000000#32 + ∑ j : Fin 4864, codes h dy (ValueIdx.ix2 (i 0) j) * w (ValueIdx.ix2 (i 1) j))
    * (up h * ws (ValueIdx.ix2 0 0))

/-- The gradient of the weights. -/
def dw (h : Mat 1 16) (xs : Mat 1 1) (dy : Mat 36864 4864) (x : Mat 36864 1792) : Mat 1792 4864 := fun i =>
  (Ideal.ofBits .f32 0x00000000#32 + ∑ r : Fin 36864, x (ValueIdx.ix2 r (i 0)) * codes h dy (ValueIdx.ix2 r (i 1)))
    * (xs (ValueIdx.ix2 0 0) * up h)

/-- The scale as an array of one entry. -/
def scale (h : Mat 1 16) : Mat 1 1 := fun _ => up h

/-- `a` is the largest magnitude of dy: what bounds it is what bounds every magnitude. -/
def IsPeak (dy : Mat 36864 4864) (a : Mat 1 1) : Prop :=
  ∀ z : EReal, (∀ j, a j ≤ z) ↔ ∀ i, max (dy i) (-(dy i)) ≤ z

/-- There is only one largest magnitude. -/
theorem IsPeak.eq {dy : Mat 36864 4864} {a b : Mat 1 1} (ha : IsPeak dy a) (hb : IsPeak dy b) : a = b := by
  have one (v : Mat 1 1) (z : EReal) (j : (⟨2, ![1, 1]⟩ : Shape).Idx) : v j ≤ z ↔ ∀ j, v j ≤ z :=
    ⟨fun H k => by rw [idx_one k, ← idx_one j]; exact H, fun H => H j⟩
  funext j
  exact eq_of_forall_ge_iff fun z => (one a z j).trans ((ha z).trans ((hb z).symm.trans (one b z j).symm))

/-- A sum over all tokens, taken by blocks of 256. -/
theorem sum_blocks (f : Fin 36864 → EReal) :
    ∑ r : Fin 36864, f r = ∑ s : Fin 144, ∑ i : Fin 256, f ⟨s.val * 256 + i.val, by omega⟩ := by
  rw [← Fintype.sum_prod_type']
  refine (Fintype.sum_equiv (finProdFinEquiv (m := 144) (n := 256)) _ _ fun p => ?_).symm
  refine congrArg f (Fin.ext ?_)
  show p.1.val * 256 + p.2.val = p.2.val + 256 * p.1.val
  omega

end Cert.Formulas
end
-- ==== Proof.KernelValue.lean ====
/- The kernel computes the formulas: when the history holds single-precision numbers, what its five results hold after
   the last point. -/
module

public import proofs.«01_k».proof.Proof.Arrays
public import proofs.«01_k».proof.Proof.Bound
public import proofs.«01_k».proof.Proof.Formulas

@[expose] public section

set_option maxRecDepth 16384

noncomputable section

namespace Cert.KernelIdeal.Hand

open Cert.KernelIdeal Cert.KernelIdeal.Gen Cert.Exponent Cert.Common
open Idealize.ShloMosaic Idealize.ShloMosaic.TcCoe
open scoped BigOperators

/-! ## One point's scale and codes by the formulas -/

theorem scaleV_up (h : Vec Ideal S1x16 .f32) (hs : ∀ i, Single (h i)) (j : S1x1.Idx) :
    scaleV (F := Ideal) h j = Formulas.up h := by
  rw [scaleV_apply, power_expo _ (mag_nonneg h) (mag_bound h hs)]
  rfl

theorem codesV_down (h : Vec Ideal S1x16 .f32) (hs : ∀ i, Single (h i)) (dy : Vec Ideal S256x4864 .bf16) (i : S256x4864.Idx) :
    codesV (F := Ideal) h dy i = clamp (Formulas.down h) (dy i) := by
  rw [codesV_apply, power_neg_expo _ (mag_nonneg h) (mag_bound h hs)]
  rfl

variable (m : (ℓ : Loc nD τ sig) → Buf (Elt Ideal) ℓ) (c : Dev nD)

/-- The history row, the two scales and the arrays as the grid finds them. -/
abbrev Hist : Formulas.Mat 1 16 := V m c main_v0
abbrev Xs : Formulas.Mat 1 1 := V m c main_v1
abbrev Ws : Formulas.Mat 1 1 := V m c main_v2
abbrev Dy : Formulas.Mat 36864 4864 := V m c main_v3
abbrev X : Formulas.Mat 36864 1792 := V m c main_v4
abbrev W : Formulas.Mat 1792 4864 := V m c main_arg3

variable (hs : ∀ i, Single (Hist m c i))
include hs

theorem codes_blk (t : Fin cfg0.N) (i : Fin 256) (j : Fin 4864) :
    codesV (F := Ideal) (iblk m c 0 t) (iblk m c 3 t) (ValueIdx.ix2 i j) = Formulas.codes (Hist m c) (Dy m c) (ValueIdx.ix2 (rowOf t i) j) := by
  rw [blk0]
  refine (codesV_down _ hs _ _).trans ?_
  exact congrArg (clamp (Formulas.down (Hist m c))) (blk3 m c t i j)

theorem value9 : (dats m 0 c).arrAt 9 cfg0.N = Formulas.codes (Hist m c) (Dy m c) :=
  final9 m c _ fun t i j => codes_blk m c hs t i j

theorem value10 : (dats m 0 c).arrAt 10 cfg0.N = Formulas.scale (Hist m c) := by
  rw [final10]
  funext j
  unfold scaleAt
  rw [blk0]
  exact scaleV_up _ hs j

theorem value6 : (dats m 0 c).arrAt 6 cfg0.N = Formulas.dx (Hist m c) (Ws m c) (Dy m c) (W m c) := by
  refine final6 m c _ fun t i k => ?_
  refine (dxV_apply _ _ _ _ i k).trans ?_
  refine congrArg₂ (· * ·) (congrArg (Ideal.ofBits .f32 0x00000000#32 + ·) (Finset.sum_congr rfl fun j _ => ?_)) (congrArg₂ (· * ·) ?_ ?_)
  · exact congrArg₂ (· * ·) (codes_blk m c hs t i j) (congrFun (blk5 m c t) _)
  · rw [blk0]; exact scaleV_up _ hs _
  · exact congrFun (blk2 m c t) _

/-! ## The sum over the tokens -/

/-- What point `s` adds to entry (k, j) of the running sum. -/
def part (k : Fin 1792) (j : Fin 4864) (s : ℕ) : EReal :=
  if h : s < 144 then ∑ i : Fin 256, X m c (ValueIdx.ix2 ⟨s * 256 + i.val, by omega⟩ k)
      * Formulas.codes (Hist m c) (Dy m c) (ValueIdx.ix2 ⟨s * 256 + i.val, by omega⟩ j) else 0

theorem step_eq (t : Fin cfg0.N) (acc : Vec Ideal S1792x4864 .f32) (k : Fin 1792) (j : Fin 4864) :
    accV (F := Ideal) (iblk m c 0 t) (iblk m c 3 t) (iblk m c 4 t) acc (ValueIdx.ix2 k j) = acc (ValueIdx.ix2 k j) + part m c k j t.val := by
  refine (accV_apply _ _ _ _ k j).trans (congrArg (acc (ValueIdx.ix2 k j) + ·) ?_)
  rw [Ideal.ofBits_zero_f32, zero_add, part, dif_pos (points t)]
  refine Finset.sum_congr rfl fun i _ => ?_
  exact congrArg₂ (· * ·) (blk4 m c t i k) (codes_blk m c hs t i j)

theorem sumAt_eq (k : Fin 1792) (j : Fin 4864) : ∀ (n : ℕ) (h : n < cfg0.N),
    sumAt m c n h (ValueIdx.ix2 k j) = ∑ s ∈ Finset.range (n + 1), part m c k j s
  | 0, h => by
    refine (step_eq m c hs ⟨0, h⟩ _ k j).trans ?_
    rw [Finset.sum_range_one]
    exact (congrArg (· + part m c k j 0) Ideal.ofBits_zero_f32).trans (zero_add _)
  | n + 1, h => by
    refine (step_eq m c hs ⟨n + 1, h⟩ _ k j).trans ?_
    rw [Finset.sum_range_succ, sumAt_eq k j n]

theorem value7 : (dats m 0 c).arrAt 7 cfg0.N = Formulas.dw (Hist m c) (Xs m c) (Dy m c) (X m c) := by
  rw [final7]
  funext i
  obtain ⟨k, j, rfl⟩ : ∃ (k : Fin 1792) (j : Fin 4864), i = ValueIdx.ix2 k j := ⟨_, _, ValueIdx.eq_ix2 i⟩
  refine (dwV_apply _ _ _ _).trans ?_
  refine congrArg₂ (· * ·) ?_ (congrArg (Xs m c (ValueIdx.ix2 0 0) * ·) (scaleV_up _ hs _))
  rw [sumAt_eq m c hs k j 143 _, Ideal.ofBits_zero_f32, zero_add, Formulas.sum_blocks, Finset.sum_range]
  refine Finset.sum_congr rfl fun s _ => ?_
  rw [part, dif_pos s.isLt]

/-! ## The largest magnitude -/

omit hs in
theorem maxAt_le (z : EReal) : ∀ (n : ℕ) (h : n < cfg0.N), (∀ j, (maxAt m c n h j : EReal) ≤ z)
    ↔ 0 ≤ z ∧ ∀ t : Fin cfg0.N, t.val ≤ n → ∀ i : S256x4864.Idx, (absf (F := Ideal) (s := S256x4864) (φ := .bf16) (iblk m c 3 t) i : EReal) ≤ z
  | 0, h => by
    refine (amaxV_le _ _ z).trans ?_
    refine and_congr ⟨fun H => ?_, fun H j => ?_⟩ ⟨fun H t ht => ?_, fun H => H ⟨0, h⟩ le_rfl⟩
    · exact le_of_eq_of_le Ideal.ofBits_zero_f32.symm (H (ValueIdx.ix2 0 0))
    · exact le_of_eq_of_le Ideal.ofBits_zero_f32 H
    · obtain rfl : t = ⟨0, h⟩ := Fin.ext (Nat.le_zero.mp ht)
      exact H
  | n + 1, h => by
    refine (amaxV_le _ _ z).trans ?_
    rw [maxAt_le z n, and_assoc]
    refine and_congr Iff.rfl ⟨fun H t ht => ?_, fun H => ⟨fun t ht => H t (by omega), H ⟨n + 1, h⟩ le_rfl⟩⟩
    rcases Nat.lt_or_ge t.val (n + 1) with h' | h'
    · exact H.1 t (by omega)
    · obtain rfl : t = ⟨n + 1, h⟩ := Fin.ext (le_antisymm ht h')
      exact H.2

omit hs in
theorem value8 : Formulas.IsPeak (Dy m c) ((dats m 0 c).arrAt 8 cfg0.N) := by
  intro z
  rw [final8]
  refine (maxAt_le m c z 143 _).trans ⟨fun H i => ?_, fun H => ⟨?_, fun t _ y => ?_⟩⟩
  · obtain ⟨r, j, rfl⟩ : ∃ (r : Fin 36864) (j : Fin 4864), i = ValueIdx.ix2 r j := ⟨_, _, ValueIdx.eq_ix2 i⟩
    have hN : cfg0.N = 144 := N_0
    let t : Fin cfg0.N := ⟨r.val / 256, by omega⟩
    have ht : t.val ≤ 143 := by show r.val / 256 ≤ 143; omega
    have e : rowOf t ⟨r.val % 256, by omega⟩ = r := Fin.ext (by show r.val / 256 * 256 + r.val % 256 = r.val; omega)
    have := H.2 t ht (ValueIdx.ix2 ⟨r.val % 256, by omega⟩ j)
    have b := blk3 m c t ⟨r.val % 256, by omega⟩ j
    rw [e] at b
    rw [← show iblk m c 3 t (ValueIdx.ix2 ⟨r.val % 256, by omega⟩ j) = Dy m c (ValueIdx.ix2 r j) from b]
    exact this
  · have := H (ValueIdx.ix2 0 0)
    rcases le_total 0 (Dy m c (ValueIdx.ix2 0 0)) with h | h
    · exact h.trans ((le_max_left _ _).trans this)
    · exact (show (0 : EReal) ≤ -(Dy m c (ValueIdx.ix2 0 0)) by simpa using EReal.neg_le_neg_iff.mpr h).trans ((le_max_right _ _).trans this)
  · obtain ⟨i, j, rfl⟩ : ∃ (i : Fin 256) (j : Fin 4864), y = ValueIdx.ix2 i j := ⟨_, _, ValueIdx.eq_ix2 y⟩
    have b : iblk m c 3 t (ValueIdx.ix2 i j) = Dy m c (ValueIdx.ix2 (rowOf t i) j) := blk3 m c t i j
    exact (congrArg (fun a : EReal => max a (-a)) b).trans_le (H _)

end Cert.KernelIdeal.Hand
end
-- ==== Proof.ReferenceArrays.lean ====
/- The reference's arrays: its one point sees every argument whole, and what it leaves in its five results is what its
   body computes from them. -/
module

public import proofs.«01_k».proof.Proof.Gen.ReferenceIdeal.Frame
public import Idealize.ShloMosaic.Lib.Pipeline.ValueKit
public import Idealize.ShloMosaic.Lib.ValueIdx

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ)

/-- The only point. -/
def only : Fin cfg0.N := ⟨0, by decide⟩

/-! ## The blocks are the arrays -/

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem blk0 (c : Dev nD) (t : Fin cfg0.N) : iblk m c 0 t = V m c main_v0 := by
  funext y; blk_simp [iblk]; blk_ext [index0 t]
theorem blk1 (c : Dev nD) (t : Fin cfg0.N) : iblk m c 1 t = V m c main_v1 := by
  funext y; blk_simp [iblk]; blk_ext [index1 t]
theorem blk2 (c : Dev nD) (t : Fin cfg0.N) : iblk m c 2 t = V m c main_v2 := by
  funext y; blk_simp [iblk]; blk_ext [index2 t]
theorem blk3 (c : Dev nD) (t : Fin cfg0.N) : iblk m c 3 t = V m c main_v3 := by
  funext y; blk_simp [iblk]; blk_ext [index3 t]
theorem blk4 (c : Dev nD) (t : Fin cfg0.N) : iblk m c 4 t = V m c main_v4 := by
  funext y; blk_simp [iblk]; blk_ext [index4 t]
theorem blk5 (c : Dev nD) (t : Fin cfg0.N) : iblk m c 5 t = V m c main_arg3 := by
  funext y; blk_simp [iblk]; blk_ext [index5 t]

/-! ## The results -/

theorem scale_eq (x0 : Vec F S1x16 .f32) (x1 x2 : Vec F S1x1 .f32) (x3 : Vec F S36864x4864 .bf16) (x4 : Vec F S36864x1792 .fp8e4m3)
    (x5 : Vec F S1792x4864 .fp8e4m3) : k0_pay10 x0 x1 x2 x3 x4 x5 = k0_pay7 x0 := by
  unfold k0_pay10
  exact congrArg k0_pay7 (View.ld_unit_lit _ x0 (by decide))

theorem final6 (c : Dev nD) : (dats m 0 c).arrAt 6 cfg0.N
    = k0_pay1 (k0_pay7 (V m c main_v0)) (k0_pay8 (V m c main_v3) (V m c main_v0) (V m c main_arg3)) (V m c main_v2) := by
  refine (dats m 0 c).arrAt_eq_of_after_last 6 only (by decide +kernel) _ fun j => ?_
  blk_simp
  rw [after0_6, blk0, blk1, blk2, blk3, blk4, blk5]
  frame_out
  rw [scale_eq]

theorem final7 (c : Dev nD) : (dats m 0 c).arrAt 7 cfg0.N
    = k0_pay2 (k0_pay7 (V m c main_v0)) (k0_pay9 (V m c main_v3) (V m c main_v0) (V m c main_v4)) (V m c main_v1) := by
  refine (dats m 0 c).arrAt_eq_of_after_last 7 only (by decide +kernel) _ fun j => ?_
  blk_simp
  rw [after0_7, blk0, blk1, blk2, blk3, blk4, blk5]
  frame_out
  rw [scale_eq]

theorem final8 (c : Dev nD) : (dats m 0 c).arrAt 8 cfg0.N
    = k0_pay3 (k0_pay4 (V m c main_v3)) := by
  refine (dats m 0 c).arrAt_eq_of_after_last 8 only (by decide +kernel) _ fun j => ?_
  blk_simp
  rw [after0_8, blk0, blk1, blk2, blk3, blk4, blk5]
  frame_out

theorem final9 (c : Dev nD) : (dats m 0 c).arrAt 9 cfg0.N
    = k0_pay6 (V m c main_v3) (V m c main_v0) := by
  refine (dats m 0 c).arrAt_eq_of_after_last 9 only (by decide +kernel) _ fun j => ?_
  blk_simp
  rw [after0_9, blk0, blk1, blk2, blk3, blk4, blk5]
  frame_out

theorem final10 (c : Dev nD) : (dats m 0 c).arrAt 10 cfg0.N
    = k0_pay7 (V m c main_v0) := by
  refine (dats m 0 c).arrAt_eq_of_after_last 10 only (by decide +kernel) _ fun j => ?_
  blk_simp
  rw [after0_10, blk0, blk1, blk2, blk3, blk4, blk5]
  frame_out
  rw [scale_eq]

end Cert.ReferenceIdeal.Hand
end
-- ==== Proof.ReferenceValue.lean ====
/- The reference computes the formulas: what its body makes of whole arrays, entry by entry, and so what its five
   results hold. -/
module

public import proofs.«01_k».proof.Proof.ReferenceArrays
public import proofs.«01_k».proof.Proof.Formulas

@[expose] public section

set_option maxRecDepth 16384

noncomputable section

namespace Cert.ReferenceIdeal.Hand

open Cert.ReferenceIdeal Cert.ReferenceIdeal.Gen Cert.Exponent Cert.Common
open Idealize.ShloMosaic Idealize.ShloMosaic.TcCoe
open scoped BigOperators

/-! ## The body, entry by entry -/

/-- The exponent. -/
theorem exponent_eq (h : Vec Ideal S1x16 .f32) (j : S1x1.Idx) : k0_pay5 (F := Ideal) h j = Formulas.exponent h := by
  have e : k0_pay5 (F := Ideal) h j = refExpo (Cert.KernelIdeal.Gen.k0_pay5 (F := Ideal) h j) := by
    unfold k0_pay5 Cert.KernelIdeal.Gen.k0_pay5
    generalize shapeCast S1x1 (multiReduction (F := Ideal) .maximumf [1] S1 (shapeCast S1x16 h shapeCasts_S1x16_S1x16) 0xFF800000#32 reduces_S1x16_S1 (.inl rfl) rfl) shapeCasts_S1_S1x1 = v
    rfl
  rw [e, idx_one j]
  rfl

/-- The scale. -/
theorem up_eq (h : Vec Ideal S1x16 .f32) (j : S1x1.Idx) : k0_pay7 (F := Ideal) h j = Formulas.up h :=
  congrArg Ideal.exp2 (exponent_eq h j)

/-- The codes. -/
theorem codes_eq (h : Vec Ideal S1x16 .f32) (dy : Vec Ideal S36864x4864 .bf16) : k0_pay6 (F := Ideal) dy h = Formulas.codes h dy := by
  funext i
  unfold k0_pay6 k0_pay4 Formulas.codes clamp Formulas.down
  rw [shapeCast_self, ← exponent_eq h (ValueIdx.ix2 0 0)]
  generalize k0_pay5 (F := Ideal) h = v
  rw [truncf_apply, minimumf_apply, maximumf_apply, mulf_apply, broadcast_one]
  rfl

/-- The gradient of the activations. -/
theorem dx_eq (h : Vec Ideal S1x16 .f32) (ws : Vec Ideal S1x1 .f32) (dy : Vec Ideal S36864x4864 .bf16) (w : Vec Ideal S1792x4864 .fp8e4m3) :
    k0_pay1 (F := Ideal) (k0_pay7 h) (k0_pay8 dy h w) ws = Formulas.dx h ws dy w := by
  funext i
  obtain ⟨r, k, rfl⟩ : ∃ (r : Fin 36864) (k : Fin 1792), i = ValueIdx.ix2 r k := ⟨_, _, ValueIdx.eq_ix2 i⟩
  have hu := up_eq h (ValueIdx.ix2 0 0)
  unfold k0_pay1 k0_pay8 Formulas.dx
  rw [codes_eq, ← hu]
  generalize Formulas.codes h dy = q
  generalize k0_pay7 (F := Ideal) h = s
  rw [shapeCast_self]
  refine (congrArg₂ (· * ·) ?_ (broadcast_one (mulf s ws) _ _) : _)
  exact Ideal.matmul_transposedRhs_apply none q w _ r k

/-- The gradient of the weights. -/
theorem dw_eq (h : Vec Ideal S1x16 .f32) (xs : Vec Ideal S1x1 .f32) (dy : Vec Ideal S36864x4864 .bf16) (x : Vec Ideal S36864x1792 .fp8e4m3) :
    k0_pay2 (F := Ideal) (k0_pay7 h) (k0_pay9 dy h x) xs = Formulas.dw h xs dy x := by
  funext i
  obtain ⟨k, j, rfl⟩ : ∃ (k : Fin 1792) (j : Fin 4864), i = ValueIdx.ix2 k j := ⟨_, _, ValueIdx.eq_ix2 i⟩
  have hu := up_eq h (ValueIdx.ix2 0 0)
  unfold k0_pay2 k0_pay9 Formulas.dw
  rw [codes_eq, ← hu]
  generalize Formulas.codes h dy = q
  generalize k0_pay7 (F := Ideal) h = s
  rw [shapeCast_self, shapeCast_self]
  refine (congrArg₂ (· * ·) ?_ (broadcast_one (mulf xs s) _ _) : _)
  exact matmul_transposedLhs_apply none x q _ k j

/-- The largest magnitude. -/
theorem peak_eq (dy : Vec Ideal S36864x4864 .bf16) : Formulas.IsPeak dy (k0_pay3 (F := Ideal) (k0_pay4 dy)) := by
  intro z
  unfold k0_pay3 k0_pay4
  rw [shapeCast_self]
  have one (v : FVec Ideal S1 .f32) : (∀ j, (broadcast S1x1 (extractAt ![0, 0, 0] (shapeCast S1x1x1 v shapeCasts_S1_S1x1x1) inpos_S1x1x1_p0_0_0) j : EReal) ≤ z)
      ↔ ∀ j, (v j : EReal) ≤ z := by
    refine Iff.trans ⟨fun H j => ?_, fun H j => H _⟩ (shapeCast_le (β := EReal) v shapeCasts_S1_S1x1x1 z)
    have e : j = fun a => ⟨![0, 0, 0] a, inpos_S1x1x1_p0_0_0 a⟩ := by
      funext a; apply Fin.ext
      have := (j a).isLt
      match a with
      | ⟨0, _⟩ => exact Nat.lt_one_iff.mp this
      | ⟨1, _⟩ => exact Nat.lt_one_iff.mp this
      | ⟨2, _⟩ => exact Nat.lt_one_iff.mp this
    rw [e]
    exact H (ValueIdx.ix2 0 0)
  refine (one _).trans ?_
  refine (max_le_all _ _ _ _ _ ofBits_bottom32 z).trans ?_
  exact shapeCast_le (β := EReal) (fun i => max (dy i : EReal) (-(dy i : EReal))) shapeCasts_S36864x4864_S1x36864x4864 z

/-! ## The results -/

variable (m : (ℓ : Loc nD τ sig) → Buf (Elt Ideal) ℓ) (c : Dev nD)

theorem value6 : (dats m 0 c).arrAt 6 cfg0.N = Formulas.dx (V m c main_v0) (V m c main_v2) (V m c main_v3) (V m c main_arg3) :=
  (final6 m c).trans (dx_eq _ _ _ _)
theorem value7 : (dats m 0 c).arrAt 7 cfg0.N = Formulas.dw (V m c main_v0) (V m c main_v1) (V m c main_v3) (V m c main_v4) :=
  (final7 m c).trans (dw_eq _ _ _ _)
theorem value8 : Formulas.IsPeak (V m c main_v3) ((dats m 0 c).arrAt 8 cfg0.N) := by
  rw [final8]; exact peak_eq _
theorem value9 : (dats m 0 c).arrAt 9 cfg0.N = Formulas.codes (V m c main_v0) (V m c main_v3) :=
  (final9 m c).trans (codes_eq _ _)
theorem value10 : (dats m 0 c).arrAt 10 cfg0.N = Formulas.scale (V m c main_v0) :=
  (final10 m c).trans (funext fun j => up_eq _ j)

end Cert.ReferenceIdeal.Hand
end
-- ==== Proof.Inputs.lean ====
/- What the arrays that both programs compute on hold: the arguments, reshaped. Arguments that agree make them agree, and
   the precondition makes every entry of the history row a single-precision number. -/
module

public import proofs.«01_k».proof.Defs
public import proofs.«01_k».proof.Proof.KernelValue
public import proofs.«01_k».proof.Proof.ReferenceValue
public import proofs.«01_k».proof.Proof.Gen.Pre_history_is_f32
public import Idealize.ShloMosaic.Lib.Claim

@[expose] public section

set_option maxRecDepth 16384

noncomputable section

/-! ## The kernel's arrays -/

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

theorem V_main_v0 : V m c main_v0 = shapeCast S1x16 (m ((c : Thread nD τ).loc main_arg5)) shapeCasts_S16_S1x16 := by
  unfold_abbrev_sides; after_results; rfl
theorem V_main_v1 : V m c main_v1 = shapeCast S1x1 (m ((c : Thread nD τ).loc main_arg2)) shapeCasts_S1_S1x1 := by
  unfold_abbrev_sides; after_results; rfl
theorem V_main_v2 : V m c main_v2 = shapeCast S1x1 (m ((c : Thread nD τ).loc main_arg4)) shapeCasts_S1_S1x1 := by
  unfold_abbrev_sides; after_results; rfl
theorem V_main_v3 : V m c main_v3 = shapeCast S36864x4864 (m ((c : Thread nD τ).loc main_arg0)) shapeCasts_S3x12288x4864_S36864x4864 := by
  unfold_abbrev_sides; after_results; rfl
theorem V_main_v4 : V m c main_v4 = shapeCast S36864x1792 (m ((c : Thread nD τ).loc main_arg1)) shapeCasts_S3x12288x1792_S36864x1792 := by
  unfold_abbrev_sides; after_results; rfl

end Cert.KernelIdeal.Hand

/-! ## The reference's arrays -/

namespace Cert.ReferenceIdeal.Hand

open Cert.ReferenceIdeal Cert.ReferenceIdeal.Gen
open Idealize.ShloMosaic Idealize.ShloMosaic.TcCoe Idealize.ShloMosaic.Tactic

variable (m : (ℓ : Loc nD τ sig) → Buf (Elt Ideal) ℓ) (c : Dev nD)

theorem V_main_v0 : V m c main_v0 = shapeCast S1x16 (m ((c : Thread nD τ).loc main_arg5)) shapeCasts_S16_S1x16 := by
  unfold_abbrev_sides; after_results; rfl
theorem V_main_v1 : V m c main_v1 = shapeCast S1x1 (m ((c : Thread nD τ).loc main_arg2)) shapeCasts_S1_S1x1 := by
  unfold_abbrev_sides; after_results; rfl
theorem V_main_v2 : V m c main_v2 = shapeCast S1x1 (m ((c : Thread nD τ).loc main_arg4)) shapeCasts_S1_S1x1 := by
  unfold_abbrev_sides; after_results; rfl
theorem V_main_v3 : V m c main_v3 = shapeCast S36864x4864 (m ((c : Thread nD τ).loc main_arg0)) shapeCasts_S3x12288x4864_S36864x4864 := by
  unfold_abbrev_sides; after_results; rfl
theorem V_main_v4 : V m c main_v4 = shapeCast S36864x1792 (m ((c : Thread nD τ).loc main_arg1)) shapeCasts_S3x12288x1792_S36864x1792 := by
  unfold_abbrev_sides; after_results; rfl

end Cert.ReferenceIdeal.Hand

/-! ## The precondition -/

namespace Cert.KernelIdeal.Hand

open Cert.KernelIdeal Cert.KernelIdeal.Gen
open Idealize.ShloMosaic Idealize.ShloMosaic.TcCoe

/-- What the precondition says of one entry. -/
theorem single_of_pre (a : EReal)
    (h : IntOp.ori (Ideal.cmp .ole (max a (-a)) (Ideal.ofBits .f32 0x7F7FFFFF#32)) (Ideal.cmp .oeq (max a (-a)) (Ideal.ofBits .f32 0x7F800000#32)) = 1#1) :
    Single a := by
  unfold Ideal.cmp at h
  by_cases h1 : max a (-a) ≤ Ideal.ofBits .f32 0x7F7FFFFF#32
  · exact Or.inl h1
  · by_cases h2 : max a (-a) = Ideal.ofBits .f32 0x7F800000#32
    · exact Or.inr (h2.trans (Cert.Exponent.inf_eq.trans Cert.Exponent.thr_top))
    · exfalso
      revert h
      simp only [decide_eq_false h1, decide_eq_false h2]
      decide

variable (m : (ℓ : Loc nD τ sig) → Buf (Elt Ideal) ℓ) (c : Dev nD)

/-- Under the precondition every entry of the history row is a single-precision number. -/
theorem single_hist (h : Cert.Pre_KernelIdeal_history_is_f32 m) (i : S1x16.Idx) : Single (Hist m c i) := by
  have e := V_main_v0 m c
  show Single ((V m c main_v0 : S1x16.Idx → EReal) i)
  rw [e]
  exact single_of_pre _ (congrFun (h c) _)

end Cert.KernelIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_history_is_f32
public import proofs.«01_k».proof.Proof.KernelFrame
public import proofs.«01_k».proof.Proof.KernelRun
public import proofs.«01_k».proof.Proof.ReferenceRun
public import proofs.«01_k».proof.Proof.Inputs
public import Idealize.ShloMosaic.Adequacy
public import Idealize.ShloMosaic.Init

@[expose] public section

noncomputable section

namespace Cert.Proof

open Idealize.ShloMosaic Idealize.ShloMosaic.TcCoe Idealize.SL.Sem

/-- What the memory of a kernel's, and of a reference's, machine holds. -/
abbrev KernelMem : Type := (ℓ : Loc Cert.KernelIdeal.nD Cert.KernelIdeal.τ Cert.KernelIdeal.sig) → Buf (Elt Ideal) ℓ
abbrev ReferenceMem : Type := (ℓ : Loc Cert.ReferenceIdeal.nD Cert.ReferenceIdeal.τ Cert.ReferenceIdeal.sig) → Buf (Elt Ideal) ℓ

/-- On one device the two programs leave the same five results, when their arguments agree and the history holds
    single-precision numbers. -/
theorem results (m : KernelMem) (m' : ReferenceMem) (c : Dev Cert.KernelIdeal.nD) (hp : Cert.Pre_KernelIdeal_history_is_f32 m)
    (h0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (h1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (h2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (h3 : m' ((c : Thread Cert.ReferenceIdeal.nD Cert.ReferenceIdeal.τ).loc Cert.ReferenceIdeal.main_arg3) = m ((c : Thread Cert.KernelIdeal.nD Cert.KernelIdeal.τ).loc Cert.KernelIdeal.main_arg3))
    (h4 : m' ((c : Thread Cert.ReferenceIdeal.nD Cert.ReferenceIdeal.τ).loc Cert.ReferenceIdeal.main_arg4) = m ((c : Thread Cert.KernelIdeal.nD Cert.KernelIdeal.τ).loc Cert.KernelIdeal.main_arg4))
    (h5 : m' ((c : Thread Cert.ReferenceIdeal.nD Cert.ReferenceIdeal.τ).loc Cert.ReferenceIdeal.main_arg5) = m ((c : Thread Cert.KernelIdeal.nD Cert.KernelIdeal.τ).loc Cert.KernelIdeal.main_arg5)) :
    (Cert.ReferenceIdeal.Gen.dats m' 0 c).arrAt 6 Cert.ReferenceIdeal.cfg0.N = (Cert.KernelIdeal.Hand.dats m 0 c).arrAt 6 Cert.KernelIdeal.cfg0.N
    ∧ (Cert.ReferenceIdeal.Gen.dats m' 0 c).arrAt 7 Cert.ReferenceIdeal.cfg0.N = (Cert.KernelIdeal.Hand.dats m 0 c).arrAt 7 Cert.KernelIdeal.cfg0.N
    ∧ (Cert.ReferenceIdeal.Gen.dats m' 0 c).arrAt 8 Cert.ReferenceIdeal.cfg0.N = (Cert.KernelIdeal.Hand.dats m 0 c).arrAt 8 Cert.KernelIdeal.cfg0.N
    ∧ (Cert.ReferenceIdeal.Gen.dats m' 0 c).arrAt 9 Cert.ReferenceIdeal.cfg0.N = (Cert.KernelIdeal.Hand.dats m 0 c).arrAt 9 Cert.KernelIdeal.cfg0.N
    ∧ (Cert.ReferenceIdeal.Gen.dats m' 0 c).arrAt 10 Cert.ReferenceIdeal.cfg0.N = (Cert.KernelIdeal.Hand.dats m 0 c).arrAt 10 Cert.KernelIdeal.cfg0.N := by
  have hs := Cert.KernelIdeal.Hand.single_hist m c hp
  have hist : (Cert.ReferenceIdeal.Gen.V m' c Cert.ReferenceIdeal.main_v0 : Formulas.Mat 1 16) = Cert.KernelIdeal.Hand.Hist m c :=
    (Cert.ReferenceIdeal.Hand.V_main_v0 m' c).trans ((congrArg (fun x => shapeCast Cert.KernelIdeal.S1x16 x _) h5).trans (Cert.KernelIdeal.Hand.V_main_v0 m c).symm)
  have xs : (Cert.ReferenceIdeal.Gen.V m' c Cert.ReferenceIdeal.main_v1 : Formulas.Mat 1 1) = Cert.KernelIdeal.Hand.Xs m c :=
    (Cert.ReferenceIdeal.Hand.V_main_v1 m' c).trans ((congrArg (fun x => shapeCast Cert.KernelIdeal.S1x1 x _) h2).trans (Cert.KernelIdeal.Hand.V_main_v1 m c).symm)
  have ws : (Cert.ReferenceIdeal.Gen.V m' c Cert.ReferenceIdeal.main_v2 : Formulas.Mat 1 1) = Cert.KernelIdeal.Hand.Ws m c :=
    (Cert.ReferenceIdeal.Hand.V_main_v2 m' c).trans ((congrArg (fun x => shapeCast Cert.KernelIdeal.S1x1 x _) h4).trans (Cert.KernelIdeal.Hand.V_main_v2 m c).symm)
  have dy : (Cert.ReferenceIdeal.Gen.V m' c Cert.ReferenceIdeal.main_v3 : Formulas.Mat 36864 4864) = Cert.KernelIdeal.Hand.Dy m c :=
    (Cert.ReferenceIdeal.Hand.V_main_v3 m' c).trans ((congrArg (fun x => shapeCast Cert.KernelIdeal.S36864x4864 x _) h0).trans (Cert.KernelIdeal.Hand.V_main_v3 m c).symm)
  have x : (Cert.ReferenceIdeal.Gen.V m' c Cert.ReferenceIdeal.main_v4 : Formulas.Mat 36864 1792) = Cert.KernelIdeal.Hand.X m c :=
    (Cert.ReferenceIdeal.Hand.V_main_v4 m' c).trans ((congrArg (fun x => shapeCast Cert.KernelIdeal.S36864x1792 x _) h1).trans (Cert.KernelIdeal.Hand.V_main_v4 m c).symm)
  have w : (Cert.ReferenceIdeal.Gen.V m' c Cert.ReferenceIdeal.main_arg3 : Formulas.Mat 1792 4864) = Cert.KernelIdeal.Hand.W m c :=
    (Cert.ReferenceIdeal.Gen.V_main_arg3 m' c).trans (h3.trans (Cert.KernelIdeal.Gen.V_main_arg3 m c).symm)
  refine ⟨?_, ?_, ?_, ?_, ?_⟩
  · refine (Cert.ReferenceIdeal.Hand.value6 m' c).trans (Eq.trans ?_ (Cert.KernelIdeal.Hand.value6 m c hs).symm)
    rw [hist, ws, dy, w]
  · refine (Cert.ReferenceIdeal.Hand.value7 m' c).trans (Eq.trans ?_ (Cert.KernelIdeal.Hand.value7 m c hs).symm)
    rw [hist, xs, dy, x]
  · have r := Cert.ReferenceIdeal.Hand.value8 m' c
    rw [dy] at r
    exact r.eq (Cert.KernelIdeal.Hand.value8 m c)
  · refine (Cert.ReferenceIdeal.Hand.value9 m' c).trans (Eq.trans ?_ (Cert.KernelIdeal.Hand.value9 m c hs).symm)
    rw [hist, dy]
  · refine (Cert.ReferenceIdeal.Hand.value10 m' c).trans (Eq.trans ?_ (Cert.KernelIdeal.Hand.value10 m c hs).symm)
    rw [hist]

/-- The kernel and the reference compute the same function over the extended reals: all five results. -/
theorem algebraic : Cert.algebraic_KernelIdeal_ReferenceIdeal_pre_history_is_f32 := by
  intro m g m' g' hp hm
  refine ⟨fun c => (Cert.KernelIdeal.Hand.dats m 0 c).arrAt 6 Cert.KernelIdeal.cfg0.N, fun c => (Cert.KernelIdeal.Hand.dats m 0 c).arrAt 7 Cert.KernelIdeal.cfg0.N,
    fun c => (Cert.KernelIdeal.Hand.dats m 0 c).arrAt 8 Cert.KernelIdeal.cfg0.N, fun c => (Cert.KernelIdeal.Hand.dats m 0 c).arrAt 9 Cert.KernelIdeal.cfg0.N,
    fun c => (Cert.KernelIdeal.Hand.dats m 0 c).arrAt 10 Cert.KernelIdeal.cfg0.N, Cert.KernelIdeal.Hand.run_blocks m g, ?_⟩
  refine (θ_run Cert.ReferenceIdeal.defs _ _).mono (fun r h c => ?_) (Cert.ReferenceIdeal.Hand.run_blocks m' g')
  obtain ⟨a0, a1, a2, a3, a4, a5⟩ := hm c
  obtain ⟨e6, e7, e8, e9, e10⟩ := results m m' c hp a0 a1 a2 a3 a4 a5
  obtain ⟨k6, k7, k8, k9, k10, rest⟩ := h c
  exact ⟨k6.trans e6, k7.trans e7, k8.trans e8, k9.trans e9, k10.trans e10, rest⟩

theorem claim : Cert.Claim := ⟨Cert.Kernel.Gen.facts, Cert.KernelIdeal.Gen.facts, Cert.ReferenceIdeal.Gen.facts, Cert.Pre_history_is_f32.Gen.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, algebraic⟩

end Cert.Proof

end
